-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S8x256x1024 : Shape := ⟨3, ![8, 256, 1024]⟩
abbrev S7x256x1024 : Shape := ⟨3, ![7, 256, 1024]⟩
abbrev S4x64x1024 : Shape := ⟨3, ![4, 64, 1024]⟩
abbrev S3x64x1024 : Shape := ⟨3, ![3, 64, 1024]⟩
abbrev S256x1024 : Shape := ⟨2, ![256, 1024]⟩
abbrev S7 : Shape := ⟨1, ![7]⟩
abbrev S3 : Shape := ⟨1, ![3]⟩
abbrev S1x256x1024 : Shape := ⟨3, ![1, 256, 1024]⟩
abbrev S_ : Shape := ⟨0, ![]⟩
abbrev S1 : Shape := ⟨1, ![1]⟩
abbrev S64x1024 : Shape := ⟨2, ![64, 1024]⟩
abbrev S1x64x1024 : Shape := ⟨3, ![1, 64, 1024]⟩

abbrev nBuf : Space → Nat
  | .hbm => 3
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S8x256x1024, .bf16⟩
  | .local _ .vmem, ⟨4, _⟩ => ⟨S8x256x1024, .bf16⟩
  | .local _ .vmem, ⟨5, _⟩ => ⟨S7x256x1024, .bf16⟩
  | .local _ .vmem, ⟨6, _⟩ => ⟨S7x256x1024, .bf16⟩
  | .local _ .vmem, ⟨7, _⟩ => ⟨S4x64x1024, .bf16⟩
  | .local _ .vmem, ⟨8, _⟩ => ⟨S4x64x1024, .bf16⟩
  | .local _ .vmem, ⟨9, _⟩ => ⟨S3x64x1024, .bf16⟩
  | .local _ .vmem, ⟨10, _⟩ => ⟨S3x64x1024, .bf16⟩
  | .local _ .vmem, ⟨11, _⟩ => ⟨S3x64x1024, .bf16⟩
  | .local _ .vmem, ⟨12, _⟩ => ⟨S3x64x1024, .bf16⟩
  | .local _ .vmem, ⟨13, _⟩ => ⟨S256x1024, .bf16⟩
  | .local _ .vmem, ⟨14, _⟩ => ⟨S256x1024, .bf16⟩
  | .local _ .vmem, ⟨15, _⟩ => ⟨S7x256x1024, .bf16⟩
  | .local _ .vmem, ⟨16, _⟩ => ⟨S7x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c256_i32 : BitVec 32 := 256#32
  let v29 : BitVec 32 := Scalar.muli v3 c256_i32
  let v30 : Index := Scalar.indexCast v29
  let c0_19 : Index := 0#32
  ![v30.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c256_i32_23 : BitVec 32 := 256#32
  let v37 : BitVec 32 := Scalar.muli v3 c256_i32_23
  let v38 : Index := Scalar.indexCast v37
  let c1024 : Index := 1024#32
  ![v38.toNat, 1024]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_28 : BitVec 32 := 1#32
  let v46 : BitVec 32 := Scalar.muli v13 c1_i32_28
  let v47 : BitVec 32 := Scalar.addi c0_i32 v46
  v47.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_30 : BitVec 32 := 1#32
  let v48 : BitVec 32 := Scalar.muli v8 c1_i32_30
  let v49 : BitVec 32 := Scalar.addi c0_i32_31 v48
  v49.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_33 : BitVec 32 := 1#32
  let v50 : BitVec 32 := Scalar.muli v22 c1_i32_33
  let v51 : BitVec 32 := Scalar.addi c0_i32_34 v50
  v51.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_36 : BitVec 32 := 1#32
  let v52 : BitVec 32 := Scalar.muli v17 c1_i32_36
  let v53 : BitVec 32 := Scalar.addi c0_i32_37 v52
  v53.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_50 : BitVec 32 := 1#32
  let v61 : BitVec 32 := Scalar.muli v8 c1_i32_50
  let v62 : BitVec 32 := Scalar.addi c0_i32_51 v61
  v62.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_60 : BitVec 32 := 1#32
  let v71 : BitVec 32 := Scalar.muli v13 c1_i32_60
  let v72 : BitVec 32 := Scalar.addi c0_i32_61 v71
  v72.toNat
def k0_off3 (d0 : Dev nD) (c0_i32_39 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v54 : BitVec 32 := Scalar.subi v3 c0_i32_39
  let c1_i32_40 : BitVec 32 := 1#32
  let v55 : BitVec 32 := Scalar.subi v54 c1_i32_40
  let c8_i32_41 : BitVec 32 := 8#32
  let v56 : BitVec 32 := Scalar.addi v55 c8_i32_41
  let c8_i32_42 : BitVec 32 := 8#32
  let v57 : BitVec 32 := Scalar.remsi v56 c8_i32_42
  let c256_i32_76 : BitVec 32 := 256#32
  let v89 : BitVec 32 := Scalar.muli v57 c256_i32_76
  let v90 : Index := Scalar.indexCast v89
  let c0_77 : Index := 0#32
  ![v90.toNat, 0]
def k0_off4 (d0 : Dev nD) (c0_i32_43 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v58 : BitVec 32 := Scalar.addi v3 c0_i32_43
  let c1_i32_44 : BitVec 32 := 1#32
  let v59 : BitVec 32 := Scalar.addi v58 c1_i32_44
  let c8_i32_45 : BitVec 32 := 8#32
  let v60 : BitVec 32 := Scalar.remsi v59 c8_i32_45
  let c256_i32_93 : BitVec 32 := 256#32
  let v109 : BitVec 32 := Scalar.muli v60 c256_i32_93
  let v110 : Index := Scalar.indexCast v109
  let c1024_94 : Index := 1024#32
  ![v110.toNat, 1024]
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_112 : BitVec 32 := 1#32
  let v128 : BitVec 32 := Scalar.muli v8 c1_i32_112
  let v129 : BitVec 32 := Scalar.addi c0_i32_113 v128
  v129.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_122 : BitVec 32 := 1#32
  let v138 : BitVec 32 := Scalar.muli v13 c1_i32_122
  let v139 : BitVec 32 := Scalar.addi c0_i32_123 v138
  v139.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_173 : BitVec 32 := 1#32
  let v195 : BitVec 32 := Scalar.muli v8 c1_i32_173
  let v196 : BitVec 32 := Scalar.addi c0_i32_174 v195
  v196.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_183 : BitVec 32 := 1#32
  let v205 : BitVec 32 := Scalar.muli v13 c1_i32_183
  let v206 : BitVec 32 := Scalar.addi c0_i32_184 v205
  v206.toNat
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_234 : BitVec 32 := 1#32
  let v262 : BitVec 32 := Scalar.muli v8 c1_i32_234
  let v263 : BitVec 32 := Scalar.addi c0_i32_235 v262
  v263.toNat
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_244 : BitVec 32 := 1#32
  let v272 : BitVec 32 := Scalar.muli v13 c1_i32_244
  let v273 : BitVec 32 := Scalar.addi c0_i32_245 v272
  v273.toNat
def k0_dev13 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_296 : BitVec 32 := 1#32
  let v329 : BitVec 32 := Scalar.muli v8 c1_i32_296
  let v330 : BitVec 32 := Scalar.addi c0_i32_297 v329
  v330.toNat
def k0_dev14 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_306 : BitVec 32 := 1#32
  let v339 : BitVec 32 := Scalar.muli v13 c1_i32_306
  let v340 : BitVec 32 := Scalar.addi c0_i32_307 v339
  v340.toNat
def k0_dev15 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_357 : BitVec 32 := 1#32
  let v396 : BitVec 32 := Scalar.muli v8 c1_i32_357
  let v397 : BitVec 32 := Scalar.addi c0_i32_358 v396
  v397.toNat
def k0_dev16 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_367 : BitVec 32 := 1#32
  let v406 : BitVec 32 := Scalar.muli v13 c1_i32_367
  let v407 : BitVec 32 := Scalar.addi c0_i32_368 v406
  v407.toNat
def k0_dev17 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_418 : BitVec 32 := 1#32
  let v463 : BitVec 32 := Scalar.muli v8 c1_i32_418
  let v464 : BitVec 32 := Scalar.addi c0_i32_419 v463
  v464.toNat
def k0_dev18 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_428 : BitVec 32 := 1#32
  let v473 : BitVec 32 := Scalar.muli v13 c1_i32_428
  let v474 : BitVec 32 := Scalar.addi c0_i32_429 v473
  v474.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_599 : BitVec 32 := 1#32
  let v613 : BitVec 32 := Scalar.addi v3 c1_i32_599
  let c8_i32_600 : BitVec 32 := 8#32
  let v614 : BitVec 32 := Scalar.remsi v613 c8_i32_600
  let c256_i32_604 : BitVec 32 := 256#32
  let v618 : BitVec 32 := Scalar.muli v614 c256_i32_604
  let c8_i32_0 : BitVec 32 := 8#32
  let v4 : BitVec 32 := Scalar.divsi v2 c8_i32_0
  let c64_i32 : BitVec 32 := 64#32
  let v619 : BitVec 32 := Scalar.muli v4 c64_i32
  let v620 : BitVec 32 := Scalar.addi v618 v619
  let v621 : Index := Scalar.indexCast v620
  let c0_605 : Index := 0#32
  ![v621.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_601 : BitVec 32 := 8#32
  let v615 : BitVec 32 := Scalar.addi v3 c8_i32_601
  let c1_i32_602 : BitVec 32 := 1#32
  let v616 : BitVec 32 := Scalar.subi v615 c1_i32_602
  let c8_i32_603 : BitVec 32 := 8#32
  let v617 : BitVec 32 := Scalar.remsi v616 c8_i32_603
  let c256_i32_609 : BitVec 32 := 256#32
  let v628 : BitVec 32 := Scalar.muli v617 c256_i32_609
  let c8_i32_0 : BitVec 32 := 8#32
  let v4 : BitVec 32 := Scalar.divsi v2 c8_i32_0
  let c64_i32_610 : BitVec 32 := 64#32
  let v629 : BitVec 32 := Scalar.muli v4 c64_i32_610
  let v630 : BitVec 32 := Scalar.addi v628 v629
  let v631 : Index := Scalar.indexCast v630
  let c1024_611 : Index := 1024#32
  ![v631.toNat, 1024]
def k0_dev19 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_626 : BitVec 32 := 1#32
  let v645 : BitVec 32 := Scalar.muli v17 c1_i32_626
  let v646 : BitVec 32 := Scalar.addi c0_i32_627 v645
  v646.toNat
def k0_dev20 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_636 : BitVec 32 := 1#32
  let v655 : BitVec 32 := Scalar.muli v22 c1_i32_636
  let v656 : BitVec 32 := Scalar.addi c0_i32_637 v655
  v656.toNat
def k0_off7 (d0 : Dev nD) (c0_i32_615 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_599 : BitVec 32 := 1#32
  let v613 : BitVec 32 := Scalar.addi v3 c1_i32_599
  let c8_i32_600 : BitVec 32 := 8#32
  let v614 : BitVec 32 := Scalar.remsi v613 c8_i32_600
  let c256_i32_652 : BitVec 32 := 256#32
  let v673 : BitVec 32 := Scalar.muli v614 c256_i32_652
  let c8_i32_0 : BitVec 32 := 8#32
  let v4 : BitVec 32 := Scalar.divsi v2 c8_i32_0
  let v638 : BitVec 32 := Scalar.subi v4 c0_i32_615
  let c1_i32_616 : BitVec 32 := 1#32
  let v639 : BitVec 32 := Scalar.subi v638 c1_i32_616
  let c4_i32_617 : BitVec 32 := 4#32
  let v640 : BitVec 32 := Scalar.addi v639 c4_i32_617
  let c4_i32_618 : BitVec 32 := 4#32
  let v641 : BitVec 32 := Scalar.remsi v640 c4_i32_618
  let c64_i32_653 : BitVec 32 := 64#32
  let v674 : BitVec 32 := Scalar.muli v641 c64_i32_653
  let v675 : BitVec 32 := Scalar.addi v673 v674
  let v676 : Index := Scalar.indexCast v675
  let c0_654 : Index := 0#32
  ![v676.toNat, 0]
def k0_off8 (d0 : Dev nD) (c0_i32_619 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_601 : BitVec 32 := 8#32
  let v615 : BitVec 32 := Scalar.addi v3 c8_i32_601
  let c1_i32_602 : BitVec 32 := 1#32
  let v616 : BitVec 32 := Scalar.subi v615 c1_i32_602
  let c8_i32_603 : BitVec 32 := 8#32
  let v617 : BitVec 32 := Scalar.remsi v616 c8_i32_603
  let c256_i32_671 : BitVec 32 := 256#32
  let v695 : BitVec 32 := Scalar.muli v617 c256_i32_671
  let c8_i32_0 : BitVec 32 := 8#32
  let v4 : BitVec 32 := Scalar.divsi v2 c8_i32_0
  let v642 : BitVec 32 := Scalar.addi v4 c0_i32_619
  let c1_i32_620 : BitVec 32 := 1#32
  let v643 : BitVec 32 := Scalar.addi v642 c1_i32_620
  let c4_i32_621 : BitVec 32 := 4#32
  let v644 : BitVec 32 := Scalar.remsi v643 c4_i32_621
  let c64_i32_672 : BitVec 32 := 64#32
  let v696 : BitVec 32 := Scalar.muli v644 c64_i32_672
  let v697 : BitVec 32 := Scalar.addi v695 v696
  let v698 : Index := Scalar.indexCast v697
  let c1024_673 : Index := 1024#32
  ![v698.toNat, 1024]
def k0_dev21 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_691 : BitVec 32 := 1#32
  let v716 : BitVec 32 := Scalar.muli v17 c1_i32_691
  let v717 : BitVec 32 := Scalar.addi c0_i32_692 v716
  v717.toNat
def k0_dev22 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_701 : BitVec 32 := 1#32
  let v726 : BitVec 32 := Scalar.muli v22 c1_i32_701
  let v727 : BitVec 32 := Scalar.addi c0_i32_702 v726
  v727.toNat
def k0_dev23 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_756 : BitVec 32 := 1#32
  let v787 : BitVec 32 := Scalar.muli v17 c1_i32_756
  let v788 : BitVec 32 := Scalar.addi c0_i32_757 v787
  v788.toNat
def k0_dev24 (d0 : Dev nD) : Nat :=
  let c0_i32_767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_766 : BitVec 32 := 1#32
  let v797 : BitVec 32 := Scalar.muli v22 c1_i32_766
  let v798 : BitVec 32 := Scalar.addi c0_i32_767 v797
  v798.toNat
def k0_dev25 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_879 : BitVec 32 := 1#32
  let v902 : BitVec 32 := Scalar.muli v17 c1_i32_879
  let v903 : BitVec 32 := Scalar.addi c0_i32_880 v902
  v903.toNat
def k0_dev26 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_889 : BitVec 32 := 1#32
  let v912 : BitVec 32 := Scalar.muli v22 c1_i32_889
  let v913 : BitVec 32 := Scalar.addi c0_i32_890 v912
  v913.toNat
def k0_off9 (d0 : Dev nD) (c0_i32_870 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_599 : BitVec 32 := 1#32
  let v613 : BitVec 32 := Scalar.addi v3 c1_i32_599
  let c8_i32_600 : BitVec 32 := 8#32
  let v614 : BitVec 32 := Scalar.remsi v613 c8_i32_600
  let c256_i32_908 : BitVec 32 := 256#32
  let v933 : BitVec 32 := Scalar.muli v614 c256_i32_908
  let c8_i32_0 : BitVec 32 := 8#32
  let v4 : BitVec 32 := Scalar.divsi v2 c8_i32_0
  let v897 : BitVec 32 := Scalar.subi v4 c0_i32_870
  let c4_i32_871 : BitVec 32 := 4#32
  let v898 : BitVec 32 := Scalar.addi v897 c4_i32_871
  let c4_i32_872 : BitVec 32 := 4#32
  let v899 : BitVec 32 := Scalar.remsi v898 c4_i32_872
  let c64_i32_909 : BitVec 32 := 64#32
  let v934 : BitVec 32 := Scalar.muli v899 c64_i32_909
  let v935 : BitVec 32 := Scalar.addi v933 v934
  let v936 : Index := Scalar.indexCast v935
  let c0_910 : Index := 0#32
  ![v936.toNat, 0]
def k0_off10 (d0 : Dev nD) (c0_i32_873 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_601 : BitVec 32 := 8#32
  let v615 : BitVec 32 := Scalar.addi v3 c8_i32_601
  let c1_i32_602 : BitVec 32 := 1#32
  let v616 : BitVec 32 := Scalar.subi v615 c1_i32_602
  let c8_i32_603 : BitVec 32 := 8#32
  let v617 : BitVec 32 := Scalar.remsi v616 c8_i32_603
  let c256_i32_924 : BitVec 32 := 256#32
  let v949 : BitVec 32 := Scalar.muli v617 c256_i32_924
  let c8_i32_0 : BitVec 32 := 8#32
  let v4 : BitVec 32 := Scalar.divsi v2 c8_i32_0
  let v900 : BitVec 32 := Scalar.addi v4 c0_i32_873
  let c4_i32_874 : BitVec 32 := 4#32
  let v901 : BitVec 32 := Scalar.remsi v900 c4_i32_874
  let c64_i32_925 : BitVec 32 := 64#32
  let v950 : BitVec 32 := Scalar.muli v901 c64_i32_925
  let v951 : BitVec 32 := Scalar.addi v949 v950
  let v952 : Index := Scalar.indexCast v951
  let c1024_926 : Index := 1024#32
  ![v952.toNat, 1024]
def k0_dev27 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_936 : BitVec 32 := 1#32
  let v959 : BitVec 32 := Scalar.muli v17 c1_i32_936
  let v960 : BitVec 32 := Scalar.addi c0_i32_937 v959
  v960.toNat
def k0_dev28 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_946 : BitVec 32 := 1#32
  let v969 : BitVec 32 := Scalar.muli v22 c1_i32_946
  let v970 : BitVec 32 := Scalar.addi c0_i32_947 v969
  v970.toNat
def k0_dev29 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c1_i32_8 : BitVec 32 := 1#32
  let v14 : BitVec 32 := Scalar.addi v4 c1_i32_8
  let c4_i32 : BitVec 32 := 4#32
  let v15 : BitVec 32 := Scalar.remsi v14 c4_i32
  let c8_i32_9 : BitVec 32 := 8#32
  let v16 : BitVec 32 := Scalar.muli v15 c8_i32_9
  let c8_i32 : BitVec 32 := 8#32
  let v3 : BitVec 32 := Scalar.remsi v2 c8_i32
  let v17 : BitVec 32 := Scalar.addi v16 v3
  let c1_i32_993 : BitVec 32 := 1#32
  let v1016 : BitVec 32 := Scalar.muli v17 c1_i32_993
  let v1017 : BitVec 32 := Scalar.addi c0_i32_994 v1016
  v1017.toNat
def k0_dev30 (d0 : Dev nD) : Nat :=
  let c0_i32_1004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c4_i32_10 : BitVec 32 := 4#32
  let v18 : BitVec 32 := Scalar.addi v4 c4_i32_10
  let c1_i32_11 : BitVec 32 := 1#32
  let v19 : BitVec 32 := Scalar.subi v18 c1_i32_11
  let c4_i32_12 : BitVec 32 := 4#32
  let v20 : BitVec 32 := Scalar.remsi v19 c4_i32_12
  let c8_i32_13 : BitVec 32 := 8#32
  let v21 : BitVec 32 := Scalar.muli v20 c8_i32_13
  let c8_i32 : BitVec 32 := 8#32
  let v3 : BitVec 32 := Scalar.remsi v2 c8_i32
  let v22 : BitVec 32 := Scalar.addi v21 v3
  let c1_i32_1003 : BitVec 32 := 1#32
  let v1026 : BitVec 32 := Scalar.muli v22 c1_i32_1003
  let v1027 : BitVec 32 := Scalar.addi c0_i32_1004 v1026
  v1027.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_599 : BitVec 32 := 1#32
  let v613 : BitVec 32 := Scalar.addi v3 c1_i32_599
  let c8_i32_600 : BitVec 32 := 8#32
  let v614 : BitVec 32 := Scalar.remsi v613 c8_i32_600
  let c256_i32_1095 : BitVec 32 := 256#32
  let v1104 : BitVec 32 := Scalar.muli v614 c256_i32_1095
  let v1105 : Index := Scalar.indexCast v1104
  let c0_1096 : Index := 0#32
  ![v1105.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c8_i32_601 : BitVec 32 := 8#32
  let v615 : BitVec 32 := Scalar.addi v3 c8_i32_601
  let c1_i32_602 : BitVec 32 := 1#32
  let v616 : BitVec 32 := Scalar.subi v615 c1_i32_602
  let c8_i32_603 : BitVec 32 := 8#32
  let v617 : BitVec 32 := Scalar.remsi v616 c8_i32_603
  let c256_i32_1099 : BitVec 32 := 256#32
  let v1112 : BitVec 32 := Scalar.muli v617 c256_i32_1099
  let v1113 : Index := Scalar.indexCast v1112
  let c1024_1100 : Index := 1024#32
  ![v1113.toNat, 1024]
def k0_dev31 (d0 : Dev nD) : Nat :=
  let c0_i32_1112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1111 : BitVec 32 := 1#32
  let v1125 : BitVec 32 := Scalar.muli v8 c1_i32_1111
  let v1126 : BitVec 32 := Scalar.addi c0_i32_1112 v1125
  v1126.toNat
def k0_dev32 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1118 : BitVec 32 := 1#32
  let v1133 : BitVec 32 := Scalar.muli v13 c1_i32_1118
  let v1134 : BitVec 32 := Scalar.addi c0_i32_1119 v1133
  v1134.toNat
def k0_off13 (d0 : Dev nD) (c0_i32_1103 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v1120 : BitVec 32 := Scalar.subi v3 c0_i32_1103
  let c8_i32_1104 : BitVec 32 := 8#32
  let v1121 : BitVec 32 := Scalar.addi v1120 c8_i32_1104
  let c8_i32_1105 : BitVec 32 := 8#32
  let v1122 : BitVec 32 := Scalar.remsi v1121 c8_i32_1105
  let c256_i32_1132 : BitVec 32 := 256#32
  let v1150 : BitVec 32 := Scalar.muli v1122 c256_i32_1132
  let v1151 : Index := Scalar.indexCast v1150
  let c0_1133 : Index := 0#32
  ![v1151.toNat, 0]
def k0_off14 (d0 : Dev nD) (c0_i32_1106 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v1123 : BitVec 32 := Scalar.addi v3 c0_i32_1106
  let c8_i32_1107 : BitVec 32 := 8#32
  let v1124 : BitVec 32 := Scalar.remsi v1123 c8_i32_1107
  let c256_i32_1144 : BitVec 32 := 256#32
  let v1162 : BitVec 32 := Scalar.muli v1124 c256_i32_1144
  let v1163 : Index := Scalar.indexCast v1162
  let c1024_1145 : Index := 1024#32
  ![v1163.toNat, 1024]
def k0_dev33 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1155 : BitVec 32 := 1#32
  let v1170 : BitVec 32 := Scalar.muli v8 c1_i32_1155
  let v1171 : BitVec 32 := Scalar.addi c0_i32_1156 v1170
  v1171.toNat
def k0_dev34 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1165 : BitVec 32 := 1#32
  let v1180 : BitVec 32 := Scalar.muli v13 c1_i32_1165
  let v1181 : BitVec 32 := Scalar.addi c0_i32_1166 v1180
  v1181.toNat
def k0_dev35 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1210 : BitVec 32 := 1#32
  let v1223 : BitVec 32 := Scalar.muli v8 c1_i32_1210
  let v1224 : BitVec 32 := Scalar.addi c0_i32_1211 v1223
  v1224.toNat
def k0_dev36 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1220 : BitVec 32 := 1#32
  let v1233 : BitVec 32 := Scalar.muli v13 c1_i32_1220
  let v1234 : BitVec 32 := Scalar.addi c0_i32_1221 v1233
  v1234.toNat
def k0_dev37 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1265 : BitVec 32 := 1#32
  let v1276 : BitVec 32 := Scalar.muli v8 c1_i32_1265
  let v1277 : BitVec 32 := Scalar.addi c0_i32_1266 v1276
  v1277.toNat
def k0_dev38 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1275 : BitVec 32 := 1#32
  let v1286 : BitVec 32 := Scalar.muli v13 c1_i32_1275
  let v1287 : BitVec 32 := Scalar.addi c0_i32_1276 v1286
  v1287.toNat
def k0_dev39 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1320 : BitVec 32 := 1#32
  let v1329 : BitVec 32 := Scalar.muli v8 c1_i32_1320
  let v1330 : BitVec 32 := Scalar.addi c0_i32_1321 v1329
  v1330.toNat
def k0_dev40 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1330 : BitVec 32 := 1#32
  let v1339 : BitVec 32 := Scalar.muli v13 c1_i32_1330
  let v1340 : BitVec 32 := Scalar.addi c0_i32_1331 v1339
  v1340.toNat
def k0_dev41 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1375 : BitVec 32 := 1#32
  let v1382 : BitVec 32 := Scalar.muli v8 c1_i32_1375
  let v1383 : BitVec 32 := Scalar.addi c0_i32_1376 v1382
  v1383.toNat
def k0_dev42 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1385 : BitVec 32 := 1#32
  let v1392 : BitVec 32 := Scalar.muli v13 c1_i32_1385
  let v1393 : BitVec 32 := Scalar.addi c0_i32_1386 v1392
  v1393.toNat
def k0_dev43 (d0 : Dev nD) : Nat :=
  let c0_i32_1431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_1 : BitVec 32 := 8#32
  let v5 : BitVec 32 := Scalar.muli v4 c8_i32_1
  let c8_i32 : BitVec 32 := 8#32
  let v3 : BitVec 32 := Scalar.remsi v2 c8_i32
  let c1_i32_2 : BitVec 32 := 1#32
  let v6 : BitVec 32 := Scalar.addi v3 c1_i32_2
  let c8_i32_3 : BitVec 32 := 8#32
  let v7 : BitVec 32 := Scalar.remsi v6 c8_i32_3
  let v8 : BitVec 32 := Scalar.addi v5 v7
  let c1_i32_1430 : BitVec 32 := 1#32
  let v1435 : BitVec 32 := Scalar.muli v8 c1_i32_1430
  let v1436 : BitVec 32 := Scalar.addi c0_i32_1431 v1435
  v1436.toNat
def k0_dev44 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.divsi v2 c8_i32_0
  let c8_i32_4 : BitVec 32 := 8#32
  let v9 : BitVec 32 := Scalar.muli v4 c8_i32_4
  let c8_i32 : BitVec 32 := 8#32
  let v3 : BitVec 32 := Scalar.remsi v2 c8_i32
  let c8_i32_5 : BitVec 32 := 8#32
  let v10 : BitVec 32 := Scalar.addi v3 c8_i32_5
  let c1_i32_6 : BitVec 32 := 1#32
  let v11 : BitVec 32 := Scalar.subi v10 c1_i32_6
  let c8_i32_7 : BitVec 32 := 8#32
  let v12 : BitVec 32 := Scalar.remsi v11 c8_i32_7
  let v13 : BitVec 32 := Scalar.addi v9 v12
  let c1_i32_1440 : BitVec 32 := 1#32
  let v1445 : BitVec 32 := Scalar.muli v13 c1_i32_1440
  let v1446 : BitVec 32 := Scalar.addi c0_i32_1441 v1445
  v1446.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768x2048, .f32⟩
  | .hbm, ⟨2, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Same.lean ====
/-
  The kernel as printed and its idealization are one program: no operation was replaced, so each function body of the one is the
  body of the other. A run of the second at the machine's float values is therefore a run of the first.
-/
module

public import proofs.«01_k».proof.Defs
public import proofs.«01_k».proof.Proof.Gen.Kernel
public import proofs.«01_k».proof.Proof.Gen.KernelIdeal

@[expose] public section

set_option maxRecDepth 100000

noncomputable section

namespace Cert.Proof

open Idealize.ShloMosaic Idealize.SL.Sem

variable {F : FTy → Type} [FloatOps F]

/-- The two programs' kernel bodies, by label; -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc) (funext fun l => funext fun x => ?_)
  match l, x with
  | 0, (t, s) => rfl

/-- and with the calls around them. -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

/-- So the frame of the idealization, at the machine's float values, is the frame of the kernel. -/
theorem kernel_of_ideal (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) : Cert.quiescent_Kernel := fun m g _ => by
  rw [defs_eq]; exact h m g

end Cert.Proof

end
-- ==== Proof.Prog.lean ====
/-
  The kernel's body, written again as a short program: the forty remote copies are indexed by `Tr`, each half of a stage is
  one loop, and every memory operation is one of a few parametric steps. `body_eq` says that the printed body is this
  program; everything after it reasons about `prog`.

  The mesh is 8 rings of 4 planes: device `c` has ring place `c % 8` and plane `c / 8`. Left halves of the result (`h = false`)
  travel to the right neighbour, right halves (`h = true`) to the left one. Stage `a` reduces and scatters along the ring in
  seven steps, stage `b` along the planes in three, stage `z` gathers along the planes in three, stage `d` along the ring in
  seven.
-/
module

public import proofs.«01_k».proof.Defs
public import proofs.«01_k».proof.Proof.Gen.KernelIdeal
public import proofs.«01_k».proof.Proof.Gen.KernelIdeal.Skeleton
public import Idealize.ShloMosaic.Lib.Pipeline.Launch
public import Idealize.ShloMosaic.Lib.Tactic

@[expose] public section

noncomputable section

namespace Cert.Proof

open Cert.KernelIdeal Cert.KernelIdeal.Gen
open Idealize.ShloMosaic Idealize.SL.Sem

variable {F : FTy → Type} [FloatOps F]

/-- The programs of one core. -/
abbrev PB (F : FTy → Type) (α : Type) : Type 1 := Prog (TpuEff nD τ sig (Elt F) Λ₀ (.tc : Proc τ)) α

/-! ## Shapes -/

/-- A stack of `n` blocks of `r` rows. -/
abbrev St (n r : ℕ) : Shape := ⟨3, ![n, r, 1024]⟩
/-- One block of `r` rows. -/
abbrev Bk (r : ℕ) : Shape := ⟨2, ![r, 1024]⟩

theorem st_inb {n : ℕ} (r : ℕ) (i : Fin n) : ∀ a, (![i.val, 0, 0] : Fin 3 → ℕ) a + (St 1 r).size a ≤ (St n r).size a
  | 0 => i.isLt
  | 1 => le_of_eq (Nat.zero_add r)
  | 2 => le_refl 1024

theorem st_pos (r : ℕ) [NeZero r] : 0 < (St 1 r).numel := Shape.numel_pos (s := St 1 r) fun
  | 0 => one_pos
  | 1 => Nat.pos_of_neZero r
  | 2 => by show 0 < 1024; decide
theorem bk_pos (r : ℕ) [NeZero r] : 0 < (Bk r).numel := Shape.numel_pos (s := Bk r) fun
  | 0 => Nat.pos_of_neZero r
  | 1 => by show 0 < 1024; decide

theorem st_squeezes (r : ℕ) : (St 1 r).Squeezes (Bk r) := by
  simp [Shape.Squeezes, List.ofFn_succ, Shape.dropsOnes]
theorem st_numel (r : ℕ) : (Bk r).numel = (St 1 r).numel := (st_squeezes r).numel_eq

/-- The rectangle of slot `i` of a stack. -/
abbrev slotR {n : ℕ} (r : ℕ) (i : Fin n) : Rect (St n r) := Rect.unit (s := St n r) ![i.val, 0, 0] (St 1 r).size (st_inb r i)

theorem slotR_packed {n : ℕ} (r : ℕ) (i : Fin n) : (slotR r i).PackedRows (EltTy.packing .bf16) :=
  Or.inr ⟨by show 2 ≤ 3; decide, rfl, Or.inr ⟨rfl, rfl, rfl, rfl, rfl⟩⟩

theorem bk_cast (r : ℕ) : (St 1 r).ShapeCasts (Bk r) := (st_numel r)
theorem st_cast (r : ℕ) : (Bk r).ShapeCasts (St 1 r) := (st_numel r).symm
theorem bk_same (r : ℕ) : (Bk r).ShapeCasts (Bk r) := rfl

/-! ## Buffers -/

/-- Slot `i` of a stack, as a block. -/
abbrev slot {n r : ℕ} (M : Memref sig .tc .vmem (St n r) .bf16) (i : Fin n) : Memref sig .tc .vmem (Bk r) .bf16 :=
  (M.slice (slotR r i) (fun _ => rfl)).squeeze (Bk r) (st_squeezes r)

theorem slot_words {n r : ℕ} (M : Memref sig .tc .vmem (St n r) .bf16) (h : M.IsWhole) (i : Fin n) : (slot M i).view.WordExact :=
  ((h.wordExact_slice rfl (slotR r i) (slotR_packed r i).wholeWords).reshape _ _)

/-- The staging buffers of `A`'s block, of `B`'s block, and the result's. -/
abbrev Am : Memref sig .tc .vmem S2048x1024 .f32 := Memref.whole cc0_stg0_0
abbrev Bm : Memref sig .tc .vmem S1024x2048 .f32 := Memref.whole cc0_stg1_0
abbrev Om : Memref sig .tc .vmem S2048x2048 .f32 := Memref.whole cc0_stg2_0

/-- What stage `a` sends, and where it lands, by half; -/
def ss1 : Bool → Memref sig .tc .vmem (St 8 256) .bf16
  | false => Memref.whole cc0_scratch0 | true => Memref.whole cc0_scratch1
def r1 : Bool → Memref sig .tc .vmem (St 7 256) .bf16
  | false => Memref.whole cc0_scratch2 | true => Memref.whole cc0_scratch3
/-- stage `b`'s; -/
def ss2 : Bool → Memref sig .tc .vmem (St 4 64) .bf16
  | false => Memref.whole cc0_scratch4 | true => Memref.whole cc0_scratch5
def r2 : Bool → Memref sig .tc .vmem (St 3 64) .bf16
  | false => Memref.whole cc0_scratch6 | true => Memref.whole cc0_scratch7
/-- where stage `z` lands; -/
def a2 : Bool → Memref sig .tc .vmem (St 3 64) .bf16
  | false => Memref.whole cc0_scratch8 | true => Memref.whole cc0_scratch9
/-- what stage `d` first sends, and where it lands. -/
def s3 : Bool → Memref sig .tc .vmem (Bk 256) .bf16
  | false => Memref.whole cc0_scratch10 | true => Memref.whole cc0_scratch11
def r3 : Bool → Memref sig .tc .vmem (St 7 256) .bf16
  | false => Memref.whole cc0_scratch12 | true => Memref.whole cc0_scratch13

theorem ss1_whole : ∀ h, (ss1 h).IsWhole | false => Memref.isWhole_whole _ | true => Memref.isWhole_whole _
theorem r1_whole : ∀ h, (r1 h).IsWhole | false => Memref.isWhole_whole _ | true => Memref.isWhole_whole _
theorem ss2_whole : ∀ h, (ss2 h).IsWhole | false => Memref.isWhole_whole _ | true => Memref.isWhole_whole _
theorem r2_whole : ∀ h, (r2 h).IsWhole | false => Memref.isWhole_whole _ | true => Memref.isWhole_whole _
theorem a2_whole : ∀ h, (a2 h).IsWhole | false => Memref.isWhole_whole _ | true => Memref.isWhole_whole _
theorem s3_whole : ∀ h, (s3 h).IsWhole | false => Memref.isWhole_whole _ | true => Memref.isWhole_whole _
theorem r3_whole : ∀ h, (r3 h).IsWhole | false => Memref.isWhole_whole _ | true => Memref.isWhole_whole _

/-! ## The transfers -/

/-- A remote copy of the kernel: its stage, its half, its step. -/
inductive Tr
  | a (h : Bool) (s : Fin 7)
  | b (h : Bool) (s : Fin 3)
  | z (h : Bool) (s : Fin 3)
  | d (h : Bool) (s : Fin 7)
deriving DecidableEq, Fintype

/-- Its rows, -/
abbrev Tr.rows : Tr → ℕ
  | .a _ _ => 256 | .b _ _ => 64 | .z _ _ => 64 | .d _ _ => 256

/-- what it reads, -/
abbrev Tr.src : (x : Tr) → Memref sig .tc .vmem (Bk x.rows) .bf16
  | .a h s => slot (ss1 h) s.castSucc
  | .b h s => slot (ss2 h) s.castSucc
  | .z h ⟨0, _⟩ => slot (ss2 h) 3
  | .z h ⟨s + 1, hs⟩ => slot (a2 h) ⟨s, Nat.lt_of_succ_lt hs⟩
  | .d h ⟨0, _⟩ => s3 h
  | .d h ⟨s + 1, hs⟩ => slot (r3 h) ⟨s, Nat.lt_of_succ_lt hs⟩

/-- where it lands, -/
abbrev Tr.dst : (x : Tr) → Memref sig .tc .vmem (Bk x.rows) .bf16
  | .a h s => slot (r1 h) s
  | .b h s => slot (r2 h) s
  | .z h s => slot (a2 h) s
  | .d h s => slot (r3 h) s

/-- the buffer its sender's wait names, of the same size as what it reads. -/
abbrev Tr.wsrc : (x : Tr) → Memref sig .tc .vmem (Bk x.rows) .bf16
  | .a h s => slot (ss1 h) s.castSucc
  | .b h s => slot (ss2 h) s.castSucc
  | .z h s => slot (a2 h) s
  | .d h s => slot (r3 h) s

theorem Tr.src_words : ∀ x : Tr, x.src.view.WordExact
  | .a h _ => slot_words _ (ss1_whole h) _
  | .b h _ => slot_words _ (ss2_whole h) _
  | .z h ⟨0, _⟩ => slot_words _ (ss2_whole h) _
  | .z h ⟨_ + 1, _⟩ => slot_words _ (a2_whole h) _
  | .d h ⟨0, _⟩ => (s3_whole h).wordExact
  | .d h ⟨_ + 1, _⟩ => slot_words _ (r3_whole h) _

theorem Tr.dst_words : ∀ x : Tr, x.dst.view.WordExact
  | .a h _ => slot_words _ (r1_whole h) _
  | .b h _ => slot_words _ (r2_whole h) _
  | .z h _ => slot_words _ (a2_whole h) _
  | .d h _ => slot_words _ (r3_whole h) _

theorem Tr.wsrc_words : ∀ x : Tr, x.wsrc.view.WordExact
  | .a h _ => slot_words _ (ss1_whole h) _
  | .b h _ => slot_words _ (ss2_whole h) _
  | .z h _ => slot_words _ (a2_whole h) _
  | .d h _ => slot_words _ (r3_whole h) _

theorem s7_inb (i : Fin 7) : ∀ a, (![i.val] : Fin 1 → ℕ) a + S1.size a ≤ S7.size a | 0 => i.isLt
theorem s3_inb (i : Fin 3) : ∀ a, (![i.val] : Fin 1 → ℕ) a + S1.size a ≤ S3.size a | 0 => i.isLt

/-- Semaphore `i` of an array of seven, and of three. -/
abbrev sem7 (A : DmaSems sig S7) (i : Fin 7) : DmaSem sig :=
  ((A.slice (Rect.unit (s := S7) ![i.val] S1.size (s7_inb i))).squeeze S_ squeezes_S1_S_).sem
abbrev sem3 (A : DmaSems sig S3) (i : Fin 3) : DmaSem sig :=
  ((A.slice (Rect.unit (s := S3) ![i.val] S1.size (s3_inb i))).squeeze S_ squeezes_S1_S_).sem

/-- The semaphore that counts the read-out, on the sender; -/
abbrev Tr.ssem : Tr → DmaSem sig
  | .a false s => sem7 cc0_scratch14 s
  | .a true s => sem7 cc0_scratch16 s
  | .b false s => sem3 cc0_scratch18 s
  | .b true s => sem3 cc0_scratch20 s
  | .z false s => sem3 cc0_scratch22 s
  | .z true s => sem3 cc0_scratch24 s
  | .d false s => sem7 cc0_scratch26 s
  | .d true s => sem7 cc0_scratch28 s

/-- the one that counts the landing, on the receiver. -/
abbrev Tr.rsem : Tr → DmaSem sig
  | .a false s => sem7 cc0_scratch15 s
  | .a true s => sem7 cc0_scratch17 s
  | .b false s => sem3 cc0_scratch19 s
  | .b true s => sem3 cc0_scratch21 s
  | .z false s => sem3 cc0_scratch23 s
  | .z true s => sem3 cc0_scratch25 s
  | .d false s => sem7 cc0_scratch27 s
  | .d true s => sem7 cc0_scratch29 s

/-- The neighbours of device `c` as the kernel computes them: right and left on the ring, up and down the planes. -/
def toR (c : Dev nD) : Dev nD := ⟨k0_dev5 c, k0_dev5_lt c⟩
def toL (c : Dev nD) : Dev nD := ⟨k0_dev6 c, k0_dev6_lt c⟩
def toU (c : Dev nD) : Dev nD := ⟨k0_dev19 c, k0_dev19_lt c⟩
def toD (c : Dev nD) : Dev nD := ⟨k0_dev20 c, k0_dev20_lt c⟩

/-- Whom device `c` sends to. -/
abbrev Tr.tgt : Tr → Dev nD → Dev nD
  | .a false _, c => toR c | .a true _, c => toL c
  | .b false _, c => toU c | .b true _, c => toD c
  | .z false _, c => toU c | .z true _, c => toD c
  | .d false _, c => toR c | .d true _, c => toL c

/-! ## The steps -/

/-- Start a transfer, -/
def snd (x : Tr) (c : Dev nD) : PB F PUnit :=
  Prog.lift (.enqueueDma x.src (.remote (Dev.tc (x.tgt c)) x.dst (.dma x.ssem)) (.dma x.rsem) x.src_words x.dst_words ⟨⟨rfl, Or.inl rfl⟩, trivial⟩)
/-- wait for its landing here, -/
def waitR (x : Tr) : PB F PUnit := Prog.lift (.waitDma2 x.rsem x.src x.dst x.src_words x.dst_words)
/-- wait for its read-out here. -/
def waitS (x : Tr) : PB F PUnit := Prog.lift (.waitDma2 x.ssem x.dst x.wsrc x.dst_words x.wsrc_words)

/-- Read slot `i` of a stack, and write it. -/
def ldS {n r : ℕ} [NeZero r] (M : Memref sig .tc .vmem (St n r) .bf16) (i : Fin n) : PB F (Vec F (St 1 r) .bf16) :=
  Prog.lift (.load M (slotR r i).toLoadRect (View.loadsAt_vmem (st_pos r)))
def stS {n r : ℕ} [NeZero r] (M : Memref sig .tc .vmem (St n r) .bf16) (hM : M.IsWhole) (i : Fin n) (w : Vec F (St 1 r) .bf16) : PB F PUnit :=
  Prog.lift (.store M (slotR r i) w Finset.univ
    (View.stores_vmem (st_pos r) (hM.storeExact_slice rfl _ (slotR_packed r i)) (fun _ => rfl)) (.inl rfl))

/-- A block of the result: its place. -/
structure Place (r : ℕ) where
  off : Fin 2 → ℕ
  inb : ∀ a, off a + (Bk r).size a ≤ S2048x2048.size a

abbrev Place.rect {r : ℕ} (p : Place r) : Rect S2048x2048 := Rect.unit (s := S2048x2048) p.off (Bk r).size p.inb

/-- Read a block of the result, and write it. -/
def ldO {r : ℕ} [NeZero r] (p : Place r) : PB F (Vec F (Bk r) .f32) :=
  Prog.lift (.load Om p.rect.toLoadRect (View.loadsAt_vmem (bk_pos r)))
def stO {r : ℕ} [NeZero r] (p : Place r) (w : Vec F (Bk r) .f32) : PB F PUnit :=
  Prog.lift (.store Om p.rect w Finset.univ (View.stores_vmem_bits_univ (bk_pos r) rfl) (.inl rfl))

/-! ## Values -/

/-- A block of the result rounded for sending; a received block widened; the block plus a received one. -/
def down {r : ℕ} (v : Vec F (Bk r) .f32) : Vec F (St 1 r) .bf16 :=
  shapeCast (St 1 r) (truncf .bf16 (v : FVec F (Bk r) .f32) bitsLt_bf16_f32 : FVec F (Bk r) .bf16) (st_cast r)
def same {r : ℕ} (v : Vec F (Bk r) .f32) : Vec F (Bk r) .f32 := shapeCast (Bk r) (v : FVec F (Bk r) .f32) (bk_same r)
def wide {r : ℕ} (w : Vec F (St 1 r) .bf16) : Vec F (Bk r) .f32 :=
  (extf .f32 (shapeCast (Bk r) (w : FVec F (St 1 r) .bf16) (bk_cast r) : FVec F (Bk r) .bf16) bitsLt_bf16_f32 : FVec F (Bk r) .f32)
def plus {r : ℕ} (v : Vec F (Bk r) .f32) (w : Vec F (St 1 r) .bf16) : Vec F (Bk r) .f32 :=
  (addf (same v : FVec F (Bk r) .f32) (wide w : FVec F (Bk r) .f32) : FVec F (Bk r) .f32)

/-! ## Places of the result -/

/-- The block a device first sends in stage `a`, the one it adds at step `s`; -/
def pA0 (c : Dev nD) : Bool → Place 256
  | false => ⟨k0_off1 c, k0_off1_inb c⟩ | true => ⟨k0_off2 c, k0_off2_inb c⟩
def pA (c : Dev nD) : Bool → Fin 7 → Place 256
  | false, s => ⟨k0_off3 c (BitVec.ofNat 32 s.val), k0_off3_inb c s⟩
  | true, s => ⟨k0_off4 c (BitVec.ofNat 32 s.val), k0_off4_inb c s⟩
/-- stage `b`'s; -/
def pB0 (c : Dev nD) : Bool → Place 64
  | false => ⟨k0_off5 c, k0_off5_inb c⟩ | true => ⟨k0_off6 c, k0_off6_inb c⟩
def pB (c : Dev nD) : Bool → Fin 3 → Place 64
  | false, s => ⟨k0_off7 c (BitVec.ofNat 32 s.val), k0_off7_inb c s⟩
  | true, s => ⟨k0_off8 c (BitVec.ofNat 32 s.val), k0_off8_inb c s⟩
/-- where stage `z` writes what it received; -/
def pZ (c : Dev nD) : Bool → Fin 3 → Place 64
  | false, s => ⟨k0_off9 c (BitVec.ofNat 32 s.val), k0_off9_inb c s⟩
  | true, s => ⟨k0_off10 c (BitVec.ofNat 32 s.val), k0_off10_inb c s⟩
/-- what stage `d` first sends, and where it writes what it received. -/
def pD0 (c : Dev nD) : Bool → Place 256
  | false => ⟨k0_off11 c, k0_off11_inb c⟩ | true => ⟨k0_off12 c, k0_off12_inb c⟩
def pD (c : Dev nD) : Bool → Fin 7 → Place 256
  | false, s => ⟨k0_off13 c (BitVec.ofNat 32 s.val), k0_off13_inb c s⟩
  | true, s => ⟨k0_off14 c (BitVec.ofNat 32 s.val), k0_off14_inb c s⟩

/-! ## The program -/

/-- Run `f 0`, …, `f (n-1)`. -/
def loop : (n : ℕ) → (Fin n → PB F PUnit) → PB F PUnit
  | 0, _ => pure ⟨⟩
  | n + 1, f => do f 0; loop n (fun i => f i.succ)

/-- Round a block of the result into slot 0 of a stack. -/
def fill {n r : ℕ} [NeZero r] [NeZero n] (M : Memref sig .tc .vmem (St n r) .bf16) (hM : M.IsWhole) (p : Place r) : PB F PUnit := do
  let v ← ldO p
  let _ ← ldS M 0
  stS M hM 0 (down (same v))

/-- One step of a reducing stage, its receiving half: wait for transfer `x`, add what landed in slot `i` of `R` to the block
    at `p` and round the sum into slot `j` of `M`; the sum is returned. -/
def redStep {n k r : ℕ} [NeZero r] (x : Tr) (R : Memref sig .tc .vmem (St k r) .bf16) (i : Fin k)
    (M : Memref sig .tc .vmem (St n r) .bf16) (hM : M.IsWhole) (j : Fin n) (p : Place r) : PB F (Vec F (Bk r) .f32) := do
  waitR x
  let v ← ldO p
  let w ← ldS R i
  let _ ← ldS M j
  stS M hM j (down (plus v w))
  pure (plus v w)

/-- Write a block of the result (after reading it, as the kernel does). -/
def putO {r : ℕ} [NeZero r] (p : Place r) (w : Vec F (Bk r) .f32) : PB F PUnit := do
  let _ ← ldO (F := F) p
  stO p w

/-- One step of a gathering stage, its receiving half. -/
def gatStep {k r : ℕ} [NeZero r] (x : Tr) (R : Memref sig .tc .vmem (St k r) .bf16) (i : Fin k) (p : Place r) : PB F PUnit := do
  waitR x
  let w ← ldS R i
  putO p (wide w)

/-- Stage `a`. -/
def stageA (c : Dev nD) : PB F PUnit := do
  loop 6 fun s => do
    snd (.a false s.castSucc) c
    snd (.a true s.castSucc) c
    let _ ← redStep (.a false s.castSucc) (r1 false) s.castSucc (ss1 false) (ss1_whole false) s.castSucc.succ (pA c false s.castSucc)
    let _ ← redStep (.a true s.castSucc) (r1 true) s.castSucc (ss1 true) (ss1_whole true) s.castSucc.succ (pA c true s.castSucc)
  snd (.a false 6) c
  snd (.a true 6) c
  let u ← redStep (.a false 6) (r1 false) 6 (ss1 false) (ss1_whole false) 7 (pA c false 6)
  putO (pA c false 6) u
  let u ← redStep (.a true 6) (r1 true) 6 (ss1 true) (ss1_whole true) 7 (pA c true 6)
  putO (pA c true 6) u
  loop 7 fun s => do
    waitS (.a false s)
    waitS (.a true s)

/-- Stage `b`. -/
def stageB (c : Dev nD) : PB F PUnit := do
  loop 2 fun s => do
    snd (.b false s.castSucc) c
    snd (.b true s.castSucc) c
    let _ ← redStep (.b false s.castSucc) (r2 false) s.castSucc (ss2 false) (ss2_whole false) s.castSucc.succ (pB c false s.castSucc)
    let _ ← redStep (.b true s.castSucc) (r2 true) s.castSucc (ss2 true) (ss2_whole true) s.castSucc.succ (pB c true s.castSucc)
  snd (.b false 2) c
  snd (.b true 2) c
  let u ← redStep (.b false 2) (r2 false) 2 (ss2 false) (ss2_whole false) 3 (pB c false 2)
  putO (pB c false 2) u
  let u ← redStep (.b true 2) (r2 true) 2 (ss2 true) (ss2_whole true) 3 (pB c true 2)
  putO (pB c true 2) u
  loop 3 fun s => do
    waitS (.b false s)
    waitS (.b true s)

/-- Stage `z`. -/
def stageZ (c : Dev nD) : PB F PUnit := do
  loop 3 fun s => do
    snd (.z false s) c
    snd (.z true s) c
    gatStep (.z false s) (a2 false) s (pZ c false s)
    gatStep (.z true s) (a2 true) s (pZ c true s)
  loop 3 fun s => do
    waitS (.z false s)
    waitS (.z true s)

/-- The block stage `d` starts with, rounded into its buffer. -/
def fillD (c : Dev nD) (h : Bool) : PB F PUnit := do
  let v ← ldO (pD0 c h)
  let _ ← Prog.lift (.load (s3 h) (Rect.unit (s := S256x1024) ![0, 0] S256x1024.size inb_S256x1024_S256x1024_0_0).toLoadRect (View.loadsAt_vmem h_S256x1024))
  Prog.lift (.store (s3 h) (Rect.unit (s := S256x1024) ![0, 0] S256x1024.size inb_S256x1024_S256x1024_0_0) (k0_pay42 v) Finset.univ
    (View.stores_vmem h_S256x1024 ((s3_whole h).storeExact_slice rfl _ packedbf16_S256x1024_S256x1024_0_0) (fun _ => rfl)) (.inl rfl))

/-- Stage `d`. -/
def stageD (c : Dev nD) : PB F PUnit := do
  loop 7 fun s => do
    snd (.d false s) c
    snd (.d true s) c
    gatStep (.d false s) (r3 false) s (pD c false s)
    gatStep (.d true s) (r3 true) s (pD c true s)
  loop 7 fun s => do
    waitS (.d false s)
    waitS (.d true s)

/-- The local product, and the first blocks to send. -/
def local0 : PB F PUnit := do
  let v ← Prog.lift (.load Am (Rect.unit (s := S2048x1024) ![0, 0] S2048x1024.size inb_S2048x1024_S2048x1024_0_0).toLoadRect (View.loadsAt_vmem h_S2048x1024))
  let w ← Prog.lift (.load Bm (Rect.unit (s := S1024x2048) ![0, 0] S1024x2048.size inb_S1024x2048_S1024x2048_0_0).toLoadRect (View.loadsAt_vmem h_S1024x2048))
  let _ ← Prog.lift (.load Om (Rect.unit (s := S2048x2048) ![0, 0] S2048x2048.size inb_S2048x2048_S2048x2048_0_0).toLoadRect (View.loadsAt_vmem h_S2048x2048))
  Prog.lift (.store Om (Rect.unit (s := S2048x2048) ![0, 0] S2048x2048.size inb_S2048x2048_S2048x2048_0_0) (k0_pay1 v w) Finset.univ
    (View.stores_vmem_bits_univ h_S2048x2048 rfl) (.inl rfl))

/-- The barrier semaphore. -/
abbrev barS : Sem sig := (SemArray.scalar (sig.barrier 0 rfl) : Sems sig S_).sem

/-- Every neighbour is told that this device's landing buffers are free, and all four are waited for. -/
def barrier (c : Dev nD) : PB F PUnit := do
  semSignalWord (toL c) barS 1#32
  semSignalWord (toR c) barS 1#32
  semSignalWord (toD c) barS 1#32
  semSignalWord (toU c) barS 1#32
  semWaitWord barS 4#32

def prog : PB F PUnit := do
  let c ← Prog.lift .deviceId
  local0
  fill (ss1 false) (ss1_whole false) (pA0 c false)
  fill (ss1 true) (ss1_whole true) (pA0 c true)
  barrier c
  stageA c
  fill (ss2 false) (ss2_whole false) (pB0 c false)
  fill (ss2 true) (ss2_whole true) (pB0 c true)
  stageB c
  stageZ c
  fillD c false
  fillD c true
  stageD c

end Cert.Proof

end
-- ==== Proof.Contents.lean ====
/-
  What every buffer holds, as functions of the blocks of `A` and `B` that the devices start with: the result's partial sums,
  the blocks sent in each stage, and the result after each stage.
-/
module

public import proofs.«01_k».proof.Proof.Prog
public import Idealize.ShloMosaic.Lib.Pipeline.Value
public import Idealize.ShloMosaic.Lib.ReshapeSlab

@[expose] public section

noncomputable section

namespace Cert.Proof

open Cert.KernelIdeal Cert.KernelIdeal.Gen
open Idealize.ShloMosaic Idealize.SL.Sem

variable {F : FTy → Type} [FloatOps F]

/-! ## Neighbours -/

/-- A direction of travel: right and left on the ring, up and down the planes. -/
inductive Dir | R | L | U | D
deriving DecidableEq

instance : Fintype Dir := ⟨{.R, .L, .U, .D}, fun d => by cases d <;> decide⟩

/-- The neighbour in a direction, -/
def Dir.nb : Dir → Dev nD → Dev nD
  | .R => toR | .L => toL | .U => toU | .D => toD
/-- and the way back. -/
def Dir.op : Dir → Dir
  | .R => .L | .L => .R | .U => .D | .D => .U

theorem Dir.nb_op (d : Dir) (c : Dev nD) : d.nb (d.op.nb c) = c := by revert d c; decide +kernel
theorem Dir.op_nb (d : Dir) (c : Dev nD) : d.op.nb (d.nb c) = c := by revert d c; decide +kernel
theorem Dir.op_op (d : Dir) : d.op.op = d := by cases d <;> rfl

/-- Along the ring, and along the planes: which way each half goes. -/
def dR : Bool → Dir | false => .R | true => .L
def dU : Bool → Dir | false => .U | true => .D

/-- Which way a transfer goes, -/
def Tr.dir : Tr → Dir
  | .a h _ => dR h | .b h _ => dU h | .z h _ => dU h | .d h _ => dR h
theorem Tr.tgt_eq : ∀ (x : Tr) (c : Dev nD), x.tgt c = x.dir.nb c
  | .a false _, _ => rfl | .a true _, _ => rfl | .b false _, _ => rfl | .b true _, _ => rfl
  | .z false _, _ => rfl | .z true _, _ => rfl | .d false _, _ => rfl | .d true _, _ => rfl
/-- and whom device `c` receives it from. -/
def Tr.frm (x : Tr) (c : Dev nD) : Dev nD := x.dir.op.nb c
theorem Tr.frm_tgt (x : Tr) (c : Dev nD) : x.frm (x.tgt c) = c := by rw [x.tgt_eq]; exact x.dir.op_nb c
theorem Tr.tgt_frm (x : Tr) (c : Dev nD) : x.tgt (x.frm c) = c := by rw [x.tgt_eq]; exact x.dir.nb_op c

/-! ## Values -/

/-- A block rounded for sending, a received one widened, and a block plus a received one. -/
def rnd {r : ℕ} (v : Vec F (Bk r) .f32) : Vec F (Bk r) .bf16 := (truncf .bf16 (v : FVec F (Bk r) .f32) bitsLt_bf16_f32 : FVec F (Bk r) .bf16)
def wid {r : ℕ} (w : Vec F (Bk r) .bf16) : Vec F (Bk r) .f32 := (extf .f32 (w : FVec F (Bk r) .bf16) bitsLt_bf16_f32 : FVec F (Bk r) .f32)
def sum {r : ℕ} (v : Vec F (Bk r) .f32) (w : Vec F (Bk r) .bf16) : Vec F (Bk r) .f32 := (addf (v : FVec F (Bk r) .f32) (wid w : FVec F (Bk r) .f32) : FVec F (Bk r) .f32)

omit [FloatOps F] in
theorem same_eq {r : ℕ} (v : Vec F (Bk r) .f32) : same v = v := shapeCast_self _ _
theorem wide_eq {r : ℕ} (w : Vec F (St 1 r) .bf16) : wide w = wid (shapeCast (Bk r) w (bk_cast r)) := rfl
theorem plus_eq {r : ℕ} (v : Vec F (Bk r) .f32) (w : Vec F (St 1 r) .bf16) : plus v w = sum v (shapeCast (Bk r) w (bk_cast r)) := by
  unfold plus; rw [same_eq]; rfl
theorem down_eq {r : ℕ} (v : Vec F (Bk r) .f32) : shapeCast (Bk r) (down v) (bk_cast r) = rnd v := shapeCast_shapeCast _ _ _
theorem pay42_eq (v : Vec F S256x1024 .f32) : (k0_pay42 v : Vec F (Bk 256) .bf16) = rnd (r := 256) v := by
  unfold k0_pay42; dsimp only; rw [shapeCast_self, shapeCast_self]; rfl

/-! ## Blocks of the result -/

/-- The contents of the result's buffer. -/
abbrev OB (F : FTy → Type) : Type := Vec F S2048x2048 .f32

/-- The block at a place, and the contents with the block there replaced. -/
def get {r : ℕ} (O : OB F) (p : Place r) : Vec F (Bk r) .f32 := Om.view.readAt (Elt F) p.rect.toLoadRect O
def put {r : ℕ} (O : OB F) (p : Place r) (w : Vec F (Bk r) .f32) : OB F := (Om.access p.rect).write (Elt F) O w Finset.univ

omit [FloatOps F] in
/-- A block is unchanged by a write in the other half of the columns. -/
theorem get_put {r r' : ℕ} (O : OB F) (p : Place r) (w : Vec F (Bk r) .f32) (q : Place r') (hp : p.off 1 = 0) (hq : q.off 1 = 1024) :
    get (put O p w) q = get O q := by
  show (Om.view.slice q.rect).read (Elt F) ((Om.view.slice p.rect).write (Elt F) O w Finset.univ) = (Om.view.slice q.rect).read (Elt F) O
  refine View.read_slice_write_slice_of_disjoint (v := Om.view) q.rect p.rect O w Finset.univ ?_
  exact View.disjoint_slice_of_sep Om.view q.rect p.rect (1 : Fin 2) rfl rfl (Or.inr (by
    show p.off 1 + 1024 ≤ q.off 1
    rw [hp, hq]))

theorem pA_off (c : Dev nD) (s : Fin 7) : (pA c false s).off 1 = 0 ∧ (pA c true s).off 1 = 1024 :=
  ⟨congrFun (k0_off3_eq c s) 1, congrFun (k0_off4_eq c s) 1⟩
theorem pB_off (c : Dev nD) (s : Fin 3) : (pB c false s).off 1 = 0 ∧ (pB c true s).off 1 = 1024 :=
  ⟨congrFun (k0_off7_eq c s) 1, congrFun (k0_off8_eq c s) 1⟩

/-! ## The stages -/

/-- What the devices start with: their blocks of `A` and `B`. -/
structure In (F : FTy → Type) where
  A : Dev nD → Vec F S2048x1024 .f32
  B : Dev nD → Vec F S1024x2048 .f32

namespace In

variable (I : In F)

/-- The local product. -/
def O0 (c : Dev nD) : OB F := k0_pay1 (I.A c) (I.B c)

/-- What a device sends at step `s` of stage `a`; -/
def XA (h : Bool) : ℕ → Dev nD → Vec F (Bk 256) .bf16
  | 0, c => rnd (get (I.O0 c) (pA0 c h))
  | s + 1, c => rnd (sum (get (I.O0 c) (pA c h (Fin.ofNat 7 s))) (XA h s ((dR h).op.nb c)))
/-- the sum it forms there; -/
def SA (h : Bool) (s : Fin 7) (c : Dev nD) : Vec F (Bk 256) .f32 := sum (get (I.O0 c) (pA c h s)) (I.XA h s.val ((dR h).op.nb c))
theorem XA_succ (h : Bool) (s : Fin 7) (c : Dev nD) : I.XA h (s.val + 1) c = rnd (I.SA h s c) := by
  unfold SA; rw [XA, Fin.ofNat_val_eq_self]
/-- the result after it. -/
def O1' (c : Dev nD) : OB F := put (I.O0 c) (pA c false 6) (I.SA false 6 c)
def O1 (c : Dev nD) : OB F := put (I.O1' c) (pA c true 6) (I.SA true 6 c)
theorem get_O1' (c : Dev nD) : get (I.O1' c) (pA c true 6) = get (I.O0 c) (pA c true 6) :=
  get_put _ _ _ _ (pA_off c 6).1 (pA_off c 6).2

/-- What a device sends at step `s` of stage `b`; -/
def XB (h : Bool) : ℕ → Dev nD → Vec F (Bk 64) .bf16
  | 0, c => rnd (get (I.O1 c) (pB0 c h))
  | s + 1, c => rnd (sum (get (I.O1 c) (pB c h (Fin.ofNat 3 s))) (XB h s ((dU h).op.nb c)))
/-- the sum it forms there; -/
def SB (h : Bool) (s : Fin 3) (c : Dev nD) : Vec F (Bk 64) .f32 := sum (get (I.O1 c) (pB c h s)) (I.XB h s.val ((dU h).op.nb c))
theorem XB_succ (h : Bool) (s : Fin 3) (c : Dev nD) : I.XB h (s.val + 1) c = rnd (I.SB h s c) := by
  unfold SB; rw [XB, Fin.ofNat_val_eq_self]
/-- the result after it. -/
def O2' (c : Dev nD) : OB F := put (I.O1 c) (pB c false 2) (I.SB false 2 c)
def O2 (c : Dev nD) : OB F := put (I.O2' c) (pB c true 2) (I.SB true 2 c)
theorem get_O2' (c : Dev nD) : get (I.O2' c) (pB c true 2) = get (I.O1 c) (pB c true 2) :=
  get_put _ _ _ _ (pB_off c 2).1 (pB_off c 2).2

/-- What a device sends at step `s` of stage `z`; -/
def XZ (h : Bool) : ℕ → Dev nD → Vec F (Bk 64) .bf16
  | 0, c => I.XB h 3 c
  | s + 1, c => XZ h s ((dU h).op.nb c)
/-- the result before step `s`, and in its middle. -/
def OZ : ℕ → Dev nD → OB F
  | 0, c => I.O2 c
  | s + 1, c => put (put (OZ s c) (pZ c false (Fin.ofNat 3 s)) (wid (I.XZ false (s + 1) c))) (pZ c true (Fin.ofNat 3 s)) (wid (I.XZ true (s + 1) c))
def OZ' (s : Fin 3) (c : Dev nD) : OB F := put (I.OZ s.val c) (pZ c false s) (wid (I.XZ false (s.val + 1) c))
theorem OZ_succ (s : Fin 3) (c : Dev nD) : I.OZ (s.val + 1) c = put (I.OZ' s c) (pZ c true s) (wid (I.XZ true (s.val + 1) c)) := by
  unfold OZ'; rw [OZ, Fin.ofNat_val_eq_self]

/-- What a device sends at step `s` of stage `d`; -/
def XD (h : Bool) : ℕ → Dev nD → Vec F (Bk 256) .bf16
  | 0, c => rnd (get (I.OZ 3 c) (pD0 c h))
  | s + 1, c => XD h s ((dR h).op.nb c)
/-- the result before step `s`, and in its middle. -/
def OD : ℕ → Dev nD → OB F
  | 0, c => I.OZ 3 c
  | s + 1, c => put (put (OD s c) (pD c false (Fin.ofNat 7 s)) (wid (I.XD false (s + 1) c))) (pD c true (Fin.ofNat 7 s)) (wid (I.XD true (s + 1) c))
def OD' (s : Fin 7) (c : Dev nD) : OB F := put (I.OD s.val c) (pD c false s) (wid (I.XD false (s.val + 1) c))
theorem OD_succ (s : Fin 7) (c : Dev nD) : I.OD (s.val + 1) c = put (I.OD' s c) (pD c true s) (wid (I.XD true (s.val + 1) c)) := by
  unfold OD'; rw [OD, Fin.ofNat_val_eq_self]

/-- What a device sends on a transfer. -/
def pk : (x : Tr) → Dev nD → Vec F (Bk x.rows) .bf16
  | .a h s, c => I.XA h s.val c
  | .b h s, c => I.XB h s.val c
  | .z h s, c => I.XZ h s.val c
  | .d h s, c => I.XD h s.val c

end In

end Cert.Proof

end
-- ==== Proof.Value.lean ====
/-
  What the kernel's result is over the exact numbers: on every device, the sum over all devices of the local products. Each
  stage is followed index by index; that a place lies where the argument needs it is checked device by device.
-/
module

public import proofs.«01_k».proof.Proof.Contents
public import Idealize.ShloMosaic.Lib.ValueIdx
public import Idealize.ShloMosaic.PureOps.Ideal.Laws

@[expose] public section

noncomputable section

open scoped BigOperators

namespace Cert.Proof

open Cert.KernelIdeal Cert.KernelIdeal.Gen
open Idealize.ShloMosaic Idealize.SL.Sem

/-! ## Blocks, index by index -/

/-- An index of the result from its row and its column. -/
def ix (a b : ℕ) : S2048x2048.Idx := ValueIdx.ix2 (n0 := 2048) (n1 := 2048) ⟨a % 2048, Nat.mod_lt _ (by decide)⟩ ⟨b % 2048, Nat.mod_lt _ (by decide)⟩

/-- Where index `j` of the block at a place lies in the result. -/
def em {r : ℕ} (p : Place r) (j : (Bk r).Idx) : S2048x2048.Idx := ix (p.off 0 + (j 0).val) (p.off 1 + (j 1).val)

/-- It depends on where the block starts only, -/
theorem em_congr {r : ℕ} {p q : Place r} (h : p.off = q.off) : em p = em q := by unfold em; rw [h]

/-- and is where the block's rectangle puts it. -/
theorem em_eq {r : ℕ} (p : Place r) (j : (Bk r).Idx) : p.rect.emb j = em p j := by
  have h0 := p.inb 0
  have h1 := p.inb 1
  have j0 : (j 0).val < r := (j 0).isLt
  have j1 : (j 1).val < 1024 := (j 1).isLt
  change p.off 0 + r ≤ 2048 at h0
  change p.off 1 + 1024 ≤ 2048 at h1
  funext a
  apply Fin.ext
  match a with
  | 0 =>
    show p.off 0 + 1 * (j 0).val = (p.off 0 + (j 0).val) % 2048
    rw [Nat.mod_eq_of_lt (by omega), Nat.one_mul]
  | 1 =>
    show p.off 1 + 1 * (j 1).val = (p.off 1 + (j 1).val) % 2048
    rw [Nat.mod_eq_of_lt (by omega), Nat.one_mul]

/-- Index `i` of the result lies in the block at a place. -/
def InBk {r : ℕ} (p : Place r) (i : S2048x2048.Idx) : Prop :=
  (p.off 0 ≤ (i 0).val ∧ (i 0).val < p.off 0 + r) ∧ p.off 1 ≤ (i 1).val ∧ (i 1).val < p.off 1 + 1024

/-- Such an index is the place of an index of the block, and the other way round. -/
theorem InBk.ex {r : ℕ} {p : Place r} {i : S2048x2048.Idx} (h : InBk p i) : ∃ j, i = em p j := by
  obtain ⟨⟨h1, h2⟩, h3, h4⟩ := h
  refine ⟨ValueIdx.ix2 (n0 := r) (n1 := 1024) ⟨(i 0).val - p.off 0, by omega⟩ ⟨(i 1).val - p.off 1, by omega⟩, ?_⟩
  have i0 : (i 0).val < 2048 := (i 0).isLt
  have i1 : (i 1).val < 2048 := (i 1).isLt
  funext a
  apply Fin.ext
  match a with
  | 0 => show (i 0).val = (p.off 0 + ((i 0).val - p.off 0)) % 2048; rw [Nat.mod_eq_of_lt (by omega)]; omega
  | 1 => show (i 1).val = (p.off 1 + ((i 1).val - p.off 1)) % 2048; rw [Nat.mod_eq_of_lt (by omega)]; omega

theorem inBk_em {r : ℕ} (p : Place r) (j : (Bk r).Idx) : InBk p (em p j) := by
  have h0 := p.inb 0
  have h1 := p.inb 1
  have j0 : (j 0).val < r := (j 0).isLt
  have j1 : (j 1).val < 1024 := (j 1).isLt
  change p.off 0 + r ≤ 2048 at h0
  change p.off 1 + 1024 ≤ 2048 at h1
  have e0 : ((em p j) 0).val = p.off 0 + (j 0).val := Nat.mod_eq_of_lt (by omega)
  have e1 : ((em p j) 1).val = p.off 1 + (j 1).val := Nat.mod_eq_of_lt (by omega)
  unfold InBk
  rw [e0, e1]
  omega

/-- A block within another: an index of the first lies in the second. -/
theorem InBk.sub {r r' : ℕ} {p : Place r} {q : Place r'} (h : q.off 0 ≤ p.off 0 ∧ p.off 0 + r ≤ q.off 0 + r' ∧ p.off 1 = q.off 1)
    {i : S2048x2048.Idx} (hi : InBk p i) : InBk q i := by
  unfold InBk at *; omega

/-- Rounding, widening and adding, at an index, over the exact numbers. -/
theorem rnd_at {r : ℕ} (v : Vec Ideal (Bk r) .f32) (j : (Bk r).Idx) : (rnd v j : EReal) = v j := rfl
theorem wid_at {r : ℕ} (w : Vec Ideal (Bk r) .bf16) (j : (Bk r).Idx) : (wid w j : EReal) = w j := rfl
theorem sum_at {r : ℕ} (v : Vec Ideal (Bk r) .f32) (w : Vec Ideal (Bk r) .bf16) (j : (Bk r).Idx) :
    (sum v w j : EReal) = (v j : EReal) + (w j : EReal) := rfl

/-- A read block, index by index. -/
theorem get_at {r : ℕ} (O : OB Ideal) (p : Place r) (j : (Bk r).Idx) : get O p j = O (em p j) := by
  rw [← em_eq]; rfl

/-- A write of right values leaves right whatever lies in its block or was right before. -/
theorem put_good {r : ℕ} {O : OB Ideal} {p : Place r} {w : Vec Ideal (Bk r) .f32} {T : S2048x2048.Idx → EReal} {i : S2048x2048.Idx}
    (hw : ∀ j, w j = T (em p j)) (hO : ¬ InBk p i → O i = T i) : put O p w i = T i := by
  by_cases h : InBk p i
  · obtain ⟨j, rfl⟩ := h.ex
    rw [← hw j, ← em_eq]
    exact View.read_write_of_mem (v := Om.view.slice p.rect) O w (Finset.mem_univ j)
  · refine Eq.trans ?_ (hO h)
    refine View.write_of_not_mem (v := Om.view.slice p.rect) O w Finset.univ fun hm => h ?_
    obtain ⟨j, -, e⟩ := Finset.mem_map.mp hm
    have e' : i = p.rect.emb j := e.symm
    rw [e', em_eq]
    exact inBk_em p j

/-! ## A ring of sums, a ring of copies -/

/-- After `s` steps of a ring of sums, the block sent is the sum over the last `s + 1` devices of their blocks at its place. -/
theorem ring_sum {r : ℕ} (n : Dev nD → Dev nD) (O : Dev nD → OB Ideal) (P : ℕ → Dev nD → Place r) (X : ℕ → Dev nD → Vec Ideal (Bk r) .bf16)
    (k : ℕ) (hP : ∀ s < k, ∀ c, (P (s + 1) c).off = (P s (n c)).off)
    (h0 : ∀ c, X 0 c = rnd (get (O c) (P 0 c)))
    (hs : ∀ s c, X (s + 1) c = rnd (sum (get (O c) (P (s + 1) c)) (X s (n c)))) :
    ∀ s ≤ k, ∀ c j, (X s c j : EReal) = ∑ t ∈ Finset.range (s + 1), (O (n^[t] c) (em (P s c) j) : EReal)
  | 0, _, c, j => by
    rw [h0, rnd_at, get_at, Finset.sum_range_one]; rfl
  | s + 1, h, c, j => by
    rw [hs, rnd_at, sum_at, get_at, ring_sum n O P X k hP h0 hs s (Nat.le_of_succ_le h) (n c) j, Finset.sum_range_succ' _ (s + 1), add_comm,
      em_congr (hP s h c)]
    rfl

/-- After `s` steps of a ring of copies of right blocks, a device's contents are right at every place it has written. -/
theorem ring_copy {r : ℕ} (T : S2048x2048.Idx → EReal) (n : Bool → Dev nD → Dev nD) (O : ℕ → Dev nD → OB Ideal) (P : Bool → ℕ → Dev nD → Place r)
    (X : Bool → ℕ → Dev nD → Vec Ideal (Bk r) .bf16)
    (k : ℕ) (hP : ∀ h, ∀ s < k, ∀ c, (P h (s + 1) c).off = (P h s (n h c)).off)
    (h0 : ∀ h c j, (X h 0 c j : EReal) = T (em (P h 0 c) j))
    (hs : ∀ h s c, X h (s + 1) c = X h s (n h c))
    (hO : ∀ h c i, InBk (P h 0 c) i → (O 0 c i : EReal) = T i)
    (hOs : ∀ s c, O (s + 1) c = put (put (O s c) (P false (s + 1) c) (wid (X false (s + 1) c))) (P true (s + 1) c) (wid (X true (s + 1) c))) :
    ∀ s ≤ k, ∀ h, ∀ t ≤ s, ∀ c i, InBk (P h t c) i → (O s c i : EReal) = T i := by
  have hX : ∀ h, ∀ s ≤ k, ∀ c j, (X h s c j : EReal) = T (em (P h s c) j) := by
    intro h s
    induction s with
    | zero => exact fun _ => h0 h
    | succ s ih =>
      intro hk c j
      rw [hs, ih (Nat.le_of_succ_le hk), em_congr (hP h s hk c)]
  intro s
  induction s with
  | zero =>
    intro _ h t ht c i hi
    obtain rfl := Nat.le_zero.mp ht
    exact hO h c i hi
  | succ s ih =>
    intro hk h t ht c i hi
    rw [hOs]
    refine put_good (hX true (s + 1) hk c) fun n1 => put_good (hX false (s + 1) hk c) fun n2 => ?_
    rcases Nat.lt_or_ge s t with hl | hg
    · obtain rfl : t = s + 1 := le_antisymm ht hl
      cases h
      · exact absurd hi n2
      · exact absurd hi n1
    · exact ih (Nat.le_of_succ_le hk) h t hg c i hi

/-! ## The places of each stage, by step -/

/-- Step 0's place is the first sent block's, step `s + 1`'s the one added to or written at step `s`; stage `z` starts where stage `b` ended. -/
def WA (h : Bool) : ℕ → Dev nD → Place 256
  | 0, c => pA0 c h
  | s + 1, c => pA c h (Fin.ofNat 7 s)
def WB (h : Bool) : ℕ → Dev nD → Place 64
  | 0, c => pB0 c h
  | s + 1, c => pB c h (Fin.ofNat 3 s)
def WZ (h : Bool) : ℕ → Dev nD → Place 64
  | 0, c => pB c h 2
  | s + 1, c => pZ c h (Fin.ofNat 3 s)
def WD (h : Bool) : ℕ → Dev nD → Place 256
  | 0, c => pD0 c h
  | s + 1, c => pD c h (Fin.ofNat 7 s)

/-- A step's place is the one its sender had before. -/
theorem WA_step : ∀ h, ∀ s < 7, ∀ c, (WA h (s + 1) c).off = (WA h s ((dR h).op.nb c)).off := by decide +kernel
theorem WB_step : ∀ h, ∀ s < 3, ∀ c, (WB h (s + 1) c).off = (WB h s ((dU h).op.nb c)).off := by decide +kernel
theorem WZ_step : ∀ h, ∀ s < 3, ∀ c, (WZ h (s + 1) c).off = (WZ h s ((dU h).op.nb c)).off := by decide +kernel
theorem WD_step : ∀ h, ∀ s < 7, ∀ c, (WD h (s + 1) c).off = (WD h s ((dR h).op.nb c)).off := by decide +kernel

/-- Stage `b`'s last block lies, on every device of the plane ring, in stage `a`'s last block. -/
theorem WB_sub : ∀ h, ∀ t < 4, ∀ c, (pA (((dU h).op.nb)^[t] c) h 6).off 0 ≤ (WB h 3 c).off 0
    ∧ (WB h 3 c).off 0 + 64 ≤ (pA (((dU h).op.nb)^[t] c) h 6).off 0 + 256 ∧ (WB h 3 c).off 1 = (pA (((dU h).op.nb)^[t] c) h 6).off 1 := by decide +kernel
/-- Stage `z`'s four blocks fill the one stage `d` starts with. -/
theorem WZ_cover : ∀ h, ∀ u < 4, ∀ c, ∃ t < 4, (WZ h t c).off 0 = (WD h 0 c).off 0 + 64 * u ∧ (WZ h t c).off 1 = (WD h 0 c).off 1 := by decide +kernel
/-- Stage `d`'s eight blocks fill a half. -/
theorem WD_cover : ∀ h, ∀ u < 8, ∀ c, ∃ t < 8, (WD h t c).off 0 = 256 * u ∧ (WD h t c).off 1 = bif h then 1024 else 0 := by decide +kernel

/-! ## Rings of devices -/

/-- The devices of a ring. -/
def ring (c : Dev nD) : Finset (Dev nD) := Finset.univ.filter fun d => d.val / 8 = c.val / 8

/-- A walk of eight steps round a ring meets each of its devices once. -/
theorem walk_ring : ∀ h c, (Finset.range 8).image (fun t => ((dR h).op.nb)^[t] c) = ring c := by decide +kernel
theorem walk_inj : ∀ h c, ∀ t < 8, ∀ u < 8, ((dR h).op.nb)^[t] c = ((dR h).op.nb)^[u] c → t = u := by decide +kernel
theorem sum_walk (h : Bool) (c : Dev nD) (f : Dev nD → EReal) : ∑ t ∈ Finset.range 8, f (((dR h).op.nb)^[t] c) = ∑ d ∈ ring c, f d := by
  rw [← walk_ring h c, Finset.sum_image fun t ht u hu => walk_inj h c t (Finset.mem_range.mp ht) u (Finset.mem_range.mp hu)]

/-- A walk of four steps through the planes meets each ring once. -/
theorem walk_planes : ∀ h c, (Finset.range 4).biUnion (fun t => ring (((dU h).op.nb)^[t] c)) = Finset.univ := by decide +kernel
theorem walk_apart : ∀ h c, ∀ t < 4, ∀ u < 4, t ≠ u → Disjoint (ring (((dU h).op.nb)^[t] c)) (ring (((dU h).op.nb)^[u] c)) := by decide +kernel
theorem sum_planes (h : Bool) (c : Dev nD) (f : Dev nD → EReal) :
    ∑ t ∈ Finset.range 4, ∑ d ∈ ring (((dU h).op.nb)^[t] c), f d = ∑ d, f d := by
  rw [← walk_planes h c, Finset.sum_biUnion fun t ht u hu => walk_apart h c t (Finset.mem_range.mp ht) u (Finset.mem_range.mp hu)]

/-! ## The stages -/

namespace In

variable (I : In Ideal)

/-- The sum of the local products over a ring, and over all devices. -/
def S (c : Dev nD) (i : S2048x2048.Idx) : EReal := ∑ d ∈ ring c, (I.O0 d i : EReal)
def T (i : S2048x2048.Idx) : EReal := ∑ d : Dev nD, (I.O0 d i : EReal)

/-- Stage `a` ends with the ring's sums in a block of each half; -/
theorem SA_at (h : Bool) (c : Dev nD) (j : (Bk 256).Idx) : (I.SA h 6 c j : EReal) = I.S c (em (pA c h 6) j) := by
  have e := ring_sum (dR h).op.nb I.O0 (WA h) (I.XA h) 7 (WA_step h) (fun _ => rfl) (fun _ _ => rfl) 7 le_rfl c j
  rw [show I.XA h 7 c = rnd (I.SA h 6 c) from I.XA_succ h 6 c, rnd_at] at e
  rw [e]
  exact sum_walk h c fun d => (I.O0 d (em (pA c h 6) j) : EReal)

theorem O1_at (h : Bool) (c : Dev nD) (i : S2048x2048.Idx) (hi : InBk (pA c h 6) i) : (I.O1 c i : EReal) = I.S c i := by
  unfold O1 O1'
  refine put_good (I.SA_at true c) fun n1 => put_good (I.SA_at false c) fun n2 => ?_
  cases h
  · exact absurd hi n2
  · exact absurd hi n1

/-- stage `b` with the full sums in a quarter of each of those; -/
theorem SB_at (h : Bool) (c : Dev nD) (j : (Bk 64).Idx) : (I.SB h 2 c j : EReal) = I.T (em (pB c h 2) j) := by
  have e := ring_sum (dU h).op.nb I.O1 (WB h) (I.XB h) 3 (WB_step h) (fun _ => rfl) (fun _ _ => rfl) 3 le_rfl c j
  rw [show I.XB h 3 c = rnd (I.SB h 2 c) from I.XB_succ h 2 c, rnd_at] at e
  rw [e]
  refine Eq.trans (Finset.sum_congr rfl fun t ht => ?_) (sum_planes h c fun d => (I.O0 d (em (pB c h 2) j) : EReal))
  exact I.O1_at h _ _ (InBk.sub (WB_sub h t (Finset.mem_range.mp ht) c) (inBk_em (WB h 3 c) j))

theorem O2_at (h : Bool) (c : Dev nD) (i : S2048x2048.Idx) (hi : InBk (pB c h 2) i) : (I.O2 c i : EReal) = I.T i := by
  unfold O2 O2'
  refine put_good (I.SB_at true c) fun n1 => put_good (I.SB_at false c) fun n2 => ?_
  cases h
  · exact absurd hi n2
  · exact absurd hi n1

/-! The equations of the two gathers, over the places by step. -/

theorem XZ_zero (h : Bool) (c : Dev nD) : I.XZ h 0 c = I.XB h 3 c := by rw [XZ]
theorem XZ_step (h : Bool) (s : ℕ) (c : Dev nD) : I.XZ h (s + 1) c = I.XZ h s ((dU h).op.nb c) := by rw [XZ]
theorem OZ_zero (c : Dev nD) : I.OZ 0 c = I.O2 c := by rw [OZ]
theorem OZ_step (s : ℕ) (c : Dev nD) : I.OZ (s + 1) c
    = put (put (I.OZ s c) (WZ false (s + 1) c) (wid (I.XZ false (s + 1) c))) (WZ true (s + 1) c) (wid (I.XZ true (s + 1) c)) := by rw [OZ, WZ, WZ]
theorem XD_zero (h : Bool) (c : Dev nD) : I.XD h 0 c = rnd (get (I.OZ 3 c) (WD h 0 c)) := by rw [XD, WD]
theorem XD_step (h : Bool) (s : ℕ) (c : Dev nD) : I.XD h (s + 1) c = I.XD h s ((dR h).op.nb c) := by rw [XD]
theorem OD_zero (c : Dev nD) : I.OD 0 c = I.OZ 3 c := by rw [OD]
theorem OD_step (s : ℕ) (c : Dev nD) : I.OD (s + 1) c
    = put (put (I.OD s c) (WD false (s + 1) c) (wid (I.XD false (s + 1) c))) (WD true (s + 1) c) (wid (I.XD true (s + 1) c)) := by rw [OD, WD, WD]

/-- stage `z` with them in the whole of those blocks; -/
theorem OZ_at (h : Bool) (c : Dev nD) (i : S2048x2048.Idx) (hi : InBk (WD h 0 c) i) : (I.OZ 3 c i : EReal) = I.T i := by
  have hu : ((i 0).val - (WD h 0 c).off 0) / 64 < 4 := by unfold InBk at hi; omega
  obtain ⟨t, ht, e0, e1⟩ := WZ_cover h _ hu c
  refine ring_copy I.T (fun h => (dU h).op.nb) I.OZ WZ I.XZ 3 WZ_step (fun h c j => ?_) I.XZ_step
    (fun h c i hi => by rw [I.OZ_zero]; exact I.O2_at h c i hi) I.OZ_step
    3 le_rfl h t (Nat.lt_succ_iff.mp ht) c i ?_
  · rw [I.XZ_zero, show I.XB h 3 c = rnd (I.SB h 2 c) from I.XB_succ h 2 c, rnd_at]
    exact I.SB_at h c j
  · unfold InBk at *; omega

/-- and stage `d` with them everywhere. -/
theorem OD_at (c : Dev nD) (i : S2048x2048.Idx) : (I.OD 7 c i : EReal) = I.T i := by
  have i0 : (i 0).val < 2048 := (i 0).isLt
  have i1 : (i 1).val < 2048 := (i 1).isLt
  have hu : (i 0).val / 256 < 8 := by omega
  obtain ⟨t, ht, e0, e1⟩ := WD_cover (decide (1024 ≤ (i 1).val)) _ hu c
  refine ring_copy I.T (fun h => (dR h).op.nb) I.OD WD I.XD 7 WD_step (fun h c j => ?_) I.XD_step
    (fun h c i hi => by rw [I.OD_zero]; exact I.OZ_at h c i hi) I.OD_step
    7 le_rfl (decide (1024 ≤ (i 1).val)) t (Nat.lt_succ_iff.mp ht) c i ?_
  · rw [I.XD_zero, rnd_at, get_at]
    exact I.OZ_at h c _ (inBk_em _ j)
  · unfold InBk
    by_cases hb : 1024 ≤ (i 1).val
    · rw [decide_eq_true hb] at e0 e1 ⊢
      change _ = 1024 at e1
      omega
    · rw [decide_eq_false hb] at e0 e1 ⊢
      change _ = 0 at e1
      omega

end In

end Cert.Proof

end
-- ==== Proof.Whole.lean ====
/-
  The sum of the devices' local products is the product of the whole arrays, when the devices hold the blocks of them: the
  contracted coordinate of the whole product is a device and a coordinate of its block.
-/
module

public import proofs.«01_k».proof.Defs
public import proofs.«01_k».proof.Proof.Gen.ReferenceIdeal
public import proofs.«01_k».proof.Proof.Value
public import Idealize.ShloMosaic.Lib.MatmulPlain
public import Idealize.ShloMosaic.Lib.StackMember
public import Idealize.ShloMosaic.Lib.Layout

@[expose] public section

noncomputable section

open scoped BigOperators

namespace Cert.Proof

open Idealize.ShloMosaic Idealize.ShloMosaic.ValueIdx

/-- The whole arrays. -/
abbrev WholeA : Type := FVec Ideal ⟨2, ![2048, 32768]⟩ .f32
abbrev WholeB : Type := FVec Ideal ⟨2, ![32768, 2048]⟩ .f32

/-- The reference's product. -/
def prod (A : WholeA) (B : WholeB) : OB Ideal :=
  Host.dotGeneral Cert.ReferenceIdeal.dot_S2048x32768_S32768x2048_S2048x2048_1_0_0_1_n_n none A B

theorem prod_at (A : WholeA) (B : WholeB) (a b : Fin 2048) :
    (prod A B (ix2 a b) : EReal) = ∑ k : Fin 32768, (A (ix2 a k) : EReal) * (B (ix2 k b) : EReal) :=
  StackMember.dotGeneral_plain_apply none A B a b

/-- A device's product, at an index. -/
theorem In.O0_at (I : In Ideal) (c : Dev Cert.KernelIdeal.nD) (a b : Fin 2048) :
    (I.O0 c (ix2 a b) : EReal) = ∑ k : Fin 1024, (I.A c (ix2 a k) : EReal) * (I.B c (ix2 k b) : EReal) := by
  unfold In.O0 Cert.KernelIdeal.Gen.k0_pay1
  rw [shapeCast_self, shapeCast_self]
  refine (Ideal.matmul_plain_apply (M := 2048) (K := 1024) (N := 2048) none (I.A c) (I.B c) _ a b).trans ?_
  rw [show (constant (F := Ideal) Cert.KernelIdeal.S2048x2048 .f32 0x00000000#32 (ix2 a b) : EReal) = 0 from Ideal.ofBits_zero_f32]
  exact zero_add _

/-- The sum over the devices is the whole product. -/
theorem In.T_eq (I : In Ideal) (A : WholeA) (B : WholeB)
    (hA : ∀ c : Dev Cert.KernelIdeal.nD, I.A c = Layout.block ⟨2, ![2048, 1024]⟩ ⟨2, ![2048, 32768]⟩ 1 32 c A)
    (hB : ∀ c : Dev Cert.KernelIdeal.nD, I.B c = Layout.block ⟨2, ![1024, 2048]⟩ ⟨2, ![32768, 2048]⟩ 0 32 c B)
    (i : Cert.KernelIdeal.S2048x2048.Idx) : I.T i = prod A B i := by
  obtain ⟨a, b, rfl⟩ : ∃ (a b : Fin 2048), i = ix2 a b := ⟨i 0, i 1, eq_ix2 i⟩
  rw [prod_at, ← Equiv.sum_comp (finProdFinEquiv (m := 32) (n := 1024)), Fintype.sum_prod_type]
  unfold In.T
  refine Finset.sum_congr rfl fun c _ => ?_
  rw [I.O0_at]
  refine Finset.sum_congr rfl fun k _ => ?_
  rw [hA, hB, Layout.block_apply, Layout.block_apply]
  congr 2
  · funext x
    apply Fin.ext
    rw [Layout.Tiles.idx_val]
    match x with
    | 0 => rfl
    | 1 => show c.val * 1024 + k.val = k.val + 1024 * c.val; omega
  · funext x
    apply Fin.ext
    rw [Layout.Tiles.idx_val]
    match x with
    | 0 => show c.val * 1024 + k.val = k.val + 1024 * c.val; omega
    | 1 => rfl

end Cert.Proof

end
-- ==== Proof.Protocol.lean ====
/-
  The protocol of the forty transfers: the slots they read and write, the semaphore cells, what each cell's units hand over,
  what every device owes, and the order in which cells are waited for.

  Every device first tells its four neighbours that its landing slots are free, handing each neighbour the slots that neighbour
  will fill. A transfer hands its source slot back to the sender and its landing slot, filled, to the receiver. A device waits
  for a landing only while it owes later landings, so no wait is circular.
-/
module

public import proofs.«01_k».proof.Proof.Contents
public import proofs.«01_k».proof.Proof.Gen.KernelIdeal.Launch
public import Idealize.ShloMosaic.Lib.Rounds
public import Idealize.ShloMosaic.Lib.Pipeline.Kit

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Dir
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots -/

/-- A slot of a scratch buffer: what stage `a` sends, where it lands; stage `b`'s; where stage `z` lands; what stage `d`
    first sends, and where it lands. -/
inductive Sl
  | s1 (h : Bool) (i : Fin 8)
  | l1 (h : Bool) (i : Fin 7)
  | s2 (h : Bool) (i : Fin 4)
  | l2 (h : Bool) (i : Fin 3)
  | l3 (h : Bool) (i : Fin 3)
  | s4 (h : Bool)
  | l4 (h : Bool) (i : Fin 7)
deriving DecidableEq, Fintype

abbrev Sl.rows : Sl → ℕ
  | .s1 _ _ => 256 | .l1 _ _ => 256 | .s2 _ _ => 64 | .l2 _ _ => 64 | .l3 _ _ => 64 | .s4 _ => 256 | .l4 _ _ => 256

/-- Its elements. -/
abbrev Sl.mem : (k : Sl) → Memref sig .tc .vmem (Bk k.rows) .bf16
  | .s1 h i => slot (ss1 h) i | .l1 h i => slot (r1 h) i
  | .s2 h i => slot (ss2 h) i | .l2 h i => slot (r2 h) i
  | .l3 h i => slot (a2 h) i
  | .s4 h => s3 h | .l4 h i => slot (r3 h) i

/-- The one block the kernel puts there. -/
abbrev Sl.val (I : In F) : (k : Sl) → Dev nD → Vec F (Bk k.rows) .bf16
  | .s1 h i, c => I.XA h i.val c | .l1 h i, c => I.XA h i.val ((dR h).op.nb c)
  | .s2 h i, c => I.XB h i.val c | .l2 h i, c => I.XB h i.val ((dU h).op.nb c)
  | .l3 h i, c => I.XZ h (i.val + 1) c
  | .s4 h, c => I.XD h 0 c | .l4 h i, c => I.XD h (i.val + 1) c

/-- The slot a transfer reads, and the one it fills. -/
abbrev Tr.srcS : Tr → Sl
  | .a h s => .s1 h s.castSucc
  | .b h s => .s2 h s.castSucc
  | .z h ⟨0, _⟩ => .s2 h 3
  | .z h ⟨s + 1, hs⟩ => .l3 h ⟨s, Nat.lt_of_succ_lt hs⟩
  | .d h ⟨0, _⟩ => .s4 h
  | .d h ⟨s + 1, hs⟩ => .l4 h ⟨s, Nat.lt_of_succ_lt hs⟩
abbrev Tr.dstS : Tr → Sl
  | .a h s => .l1 h s | .b h s => .l2 h s | .z h s => .l3 h s | .d h s => .l4 h s

theorem dstS_inj : Function.Injective Tr.dstS := by decide +kernel

/-- A slot held with its block in it, and with anything in it. -/
def full (I : In F) (k : Sl) (c : Dev nD) : sProp 𝕄 := owns (c : Thread nD τ) k.mem fullShare (k.val I c)
def free (k : Sl) (c : Dev nD) : sProp 𝕄 := iprop(∃ X, owns (c : Thread nD τ) k.mem fullShare X)

omit [FloatOps F] in
theorem free_dst (x : Tr) (c : Dev nD) : (free x.dstS c : sProp 𝕄) = iprop(∃ X, owns (c : Thread nD τ) x.dst fullShare X) := by
  cases x <;> rfl
theorem full_dst (I : In F) (x : Tr) (c : Dev nD) : full I x.dstS c = owns (c : Thread nD τ) x.dst fullShare (I.pk x (x.frm c)) := by
  cases x <;> rfl
theorem full_src (I : In F) (x : Tr) (c : Dev nD) : full I x.srcS c = owns (c : Thread nD τ) x.src fullShare (I.pk x c) := by
  rcases x with ⟨h, s⟩ | ⟨h, s⟩ | ⟨h, ⟨_ | s, hs⟩⟩ | ⟨h, ⟨_ | s, hs⟩⟩ <;> rfl

theorem full_free (I : In F) (k : Sl) (c : Dev nD) : full I k c ⊢ free k c := by
  unfold full free; iintro H; iexists _; iexact H

instance full_storable (I : In F) (k : Sl) (c : Dev nD) : BI.Storable (upEmb : UEmb _ 𝕄) (full I k c) := by unfold full; infer_instance
omit [FloatOps F] in
instance free_storable (k : Sl) (c : Dev nD) : BI.Storable (upEmb : UEmb _ 𝕄) (free (F := F) k c) := by unfold free; infer_instance

/-! ## Cells -/

/-- A semaphore of the protocol: the barrier, and a transfer's two. -/
inductive Cl
  | bar
  | s (x : Tr)
  | r (x : Tr)
deriving DecidableEq, Fintype

abbrev csem : Cl → SemLoc sig
  | .bar => .reg barS | .s x => .dma x.ssem | .r x => .dma x.rsem

theorem csem_inj : Function.Injective csem := by decide +kernel

abbrev cell (c : Dev nD) (k : Cl) : GSem nD τ sig := ((c : Thread nD τ), csem k)

theorem cell_inj : Function.Injective (fun ck : Dev nD × Cl => cell ck.1 ck.2) := by
  rintro ⟨c, k⟩ ⟨c', k'⟩ h
  have h1 : c = c' := congrArg (fun g : GSem nD τ sig => g.1.1) h
  have h2 : k = k' := csem_inj (congrArg Prod.snd h)
  rw [h1, h2]

open Classical in
/-- Which of the protocol's semaphores a semaphore is. -/
def cls (sm : SemLoc sig) : Option Cl := if h : ∃ k, csem k = sm then some h.choose else none

theorem cls_csem (k : Cl) : cls (csem k) = some k := by
  unfold cls
  have h : ∃ k', csem k' = csem k := ⟨k, rfl⟩
  rw [dif_pos h]; exact congrArg some (csem_inj h.choose_spec)
theorem cls_of (sm : SemLoc sig) (k : Cl) (h : cls sm = some k) : csem k = sm := by
  unfold cls at h
  split at h
  · next h' => cases h; exact h'.choose_spec
  · cases h

/-- The units of a transfer. -/
def Tr.N (x : Tr) : ℕ := x.dst.view.dmaCredit
theorem Tr.N_pos (x : Tr) : 0 < x.N := View.dmaCredit_pos _ (by cases x <;> exact bk_pos _)
theorem Tr.N_wsrc (x : Tr) : x.wsrc.view.dmaCredit = x.N := by cases x <;> rfl

/-! ## The schedule -/

/-- What a signal from the neighbour in direction `d` hands over: the slots there that transfers going that way fill. -/
def barPay (c : Dev nD) (d : Dir) : sProp 𝕄 :=
  bigSep Finset.univ fun x : Tr => if x.dir = d then free x.dstS (d.nb c) else iprop(emp)

variable (I : In F)

/-- What the units of a cell hand its owner. -/
def pay (c : Dev nD) : Cl → Dir → sProp 𝕄
  | .bar, d => barPay c d
  | .s x, _ => full I x.srcS c
  | .r x, _ => full I x.dstS c

omit [FloatOps F] in
instance barPay_storable (c : Dev nD) (d : Dir) : BI.Storable (upEmb : UEmb _ 𝕄) (barPay (F := F) c d) := by
  unfold barPay
  have (x : Tr) : BI.Storable (upEmb : UEmb _ 𝕄) (if x.dir = d then free x.dstS (d.nb c) else iprop(emp)) := by split <;> infer_instance
  infer_instance
instance pay_storable (c : Dev nD) (k : Cl) (d : Dir) : BI.Storable (upEmb : UEmb _ 𝕄) (pay I c k d) := by
  cases k <;> (unfold pay; infer_instance)

/-- The duties of a cell, and their units. -/
def dut : Cl → Finset Dir
  | .bar => Finset.univ | .s _ => {.R} | .r _ => {.R}
def amt : Cl → ℕ
  | .bar => 1 | .s x => x.N | .r x => x.N
theorem amt_pos (k : Cl) : 0 < amt k := by cases k; exacts [Nat.one_pos, Tr.N_pos _, Tr.N_pos _]

/-- One round: the barrier takes one unit from each neighbour, a transfer's cells the transfer's units. -/
def sch : Rounds.Schedule (GSem nD τ sig) Dir 𝕄 where
  duties g r := if r = 0 ∧ g.1.2 = .tc then (cls g.2).elim ∅ dut else ∅
  unitless _ := False
  amount g _ _ := (cls g.2).elim 1 amt
  payload g _ d := (cls g.2).elim iprop(emp) fun k => pay I g.1.1 k d
  amount_pos g _ _ _ := by
    cases cls g.2 with
    | none => exact Nat.one_pos
    | some k => exact amt_pos k

instance sch_storable (g : GSem nD τ sig) (r : ℕ) (d : Dir) : BI.Storable (upEmb : UEmb _ 𝕄) ((sch I).payload g r d) := by
  show BI.Storable upEmb ((cls g.2).elim iprop(emp) fun k => pay I g.1.1 k d)
  cases cls g.2 with
  | none => exact inferInstanceAs (BI.Storable upEmb iprop(emp))
  | some k => exact pay_storable I g.1.1 k d

theorem sch_duties (c : Dev nD) (k : Cl) : (sch I).duties (cell c k) 0 = dut k := by
  show (if 0 = 0 ∧ (c : Thread nD τ).2 = .tc then (cls (csem k)).elim ∅ dut else ∅) = _
  rw [if_pos ⟨rfl, rfl⟩, cls_csem]; rfl
theorem sch_later (g : GSem nD τ sig) : ∀ r, 1 ≤ r → (sch I).duties g r = ∅ := fun r hr => by
  dsimp only [sch]; rw [if_neg fun h => by omega]
theorem sch_amount (c : Dev nD) (k : Cl) (d : Dir) : (sch I).amount (cell c k) 0 d = amt k := by
  show (cls (csem k)).elim 1 amt = _; rw [cls_csem]; rfl
theorem sch_payload (c : Dev nD) (k : Cl) (d : Dir) : (sch I).payload (cell c k) 0 d = pay I c k d := by
  show ((cls (csem k)).elim iprop(emp) fun k => pay I c k d) = _; rw [cls_csem]; rfl
theorem sch_expect (c : Dev nD) (k : Cl) : (sch I).expect (cell c k) 0 = (dut k).card * amt k := by
  unfold Schedule.expect Schedule.amountOf
  rw [sch_duties, Finset.sum_congr rfl fun d _ => sch_amount I c k d, Finset.sum_const, smul_eq_mul]
theorem sch_rest (c : Dev nD) (k : Cl) :
    bigSep ((sch I).duties (cell c k) 0 \ ∅) (fun d => (sch I).payload (cell c k) 0 d) = bigSep (dut k) fun d => pay I c k d := by
  rw [Finset.sdiff_empty, sch_duties]; exact bigSep_congr fun d _ => sch_payload I c k d

/-! ## What is owed, and the levels -/

/-- A transfer's place in the order of the program. -/
def Tr.ord : Tr → ℕ
  | .a h s => 2 * s.val + h.toNat
  | .b h s => 14 + 2 * s.val + h.toNat
  | .z h s => 20 + 2 * s.val + h.toNat
  | .d h s => 26 + 2 * s.val + h.toNat

def lvl : Cl → ℕ
  | .bar => 1 | .s _ => 0 | .r x => 2 + x.ord
def L (g : GSem nD τ sig) : Finset Unit := if g.1.2 = .tc then {()} else ∅
def lv (g : GSem nD τ sig) (_ : Unit) : ℕ := (cls g.2).elim 0 lvl

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) (u : Unit) : lv (cell c k) u = lvl k := by
  show (cls (csem k)).elim 0 lvl = _; rw [cls_csem]; rfl

/-- The state of a transfer: not yet possible, ready, under way, landed here, and also read out here. -/
inductive Ph | no | rdy | fly | got | don
deriving DecidableEq

/-- What a transfer's sender owes its receiver. -/
def owe (x : Tr) (c : Dev nD) : CellTallies nD τ sig Unit := tallyAt (cell (x.tgt c) (.r x)) () x.N
/-- The transfers still to be sent. -/
def pend (σ : Tr → Ph) : Finset Tr := Finset.univ.filter fun x => σ x = .rdy ∨ σ x = .no
def owedT (σ : Tr → Ph) (c : Dev nD) : CellTallies nD τ sig Unit := ∑ x ∈ pend σ, owe x c
/-- What a device owes its neighbours' barriers. -/
def oweB (c : Dev nD) (d : Dir) : CellTallies nD τ sig Unit := tallyAt (cell (d.nb c) .bar) () 1
def owedB (c : Dev nD) : CellTallies nD τ sig Unit := oweB c .U + oweB c .D + oweB c .R + oweB c .L

end Cert.Proof

end
-- ==== Proof.Steps.lean ====
/-
  What a device holds while it runs, and what each step of the program does to it.
-/
module

public import proofs.«01_k».proof.Proof.Protocol
public import Idealize.ShloMosaic.Lib.Tactic

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F)

/-! ## What a device holds -/

/-- The cells' invariants, under the names they were allocated at, and that every cell is in its first round. -/
def records (K : Dev nD × Cl → ℕ) : sProp 𝕄 :=
  iprop((bigSep Finset.univ fun ck : Dev nD × Cl => cellInv ER (sch I) (K ck) (cell ck.1 ck.2))
    ∗ bigSep Finset.univ fun ck : Dev nD × Cl => reached ER (cell ck.1 ck.2) 0)
instance records_persistent (K : Dev nD × Cl → ℕ) : BI.Persistent (records I K) := by unfold records; infer_instance

/-- With the levels. -/
def env (K : Dev nD × Cl → ℕ) : sProp 𝕄 := iprop(records I K ∗ levAts L lv)
instance env_persistent (K : Dev nD × Cl → ℕ) : BI.Persistent (env I K) := by unfold env; infer_instance

theorem env_inv (K : Dev nD × Cl → ℕ) (c : Dev nD) (k : Cl) : env I K ⊢ cellInv ER (sch I) (K (c, k)) (cell c k) := by
  unfold env records
  iintro ⟨⟨H, -⟩, -⟩
  iapply (show (bigSep Finset.univ fun ck : Dev nD × Cl => cellInv ER (sch I) (K ck) (cell ck.1 ck.2)) ⊢ cellInv ER (sch I) (K (c, k)) (cell c k) from
    bigSep_elim (Finset.mem_univ (c, k))); iexact H
theorem env_reached (K : Dev nD × Cl → ℕ) (c : Dev nD) (k : Cl) : env I K ⊢ reached ER (cell c k) 0 := by
  unfold env records
  iintro ⟨⟨-, H⟩, -⟩
  iapply (show (bigSep Finset.univ fun ck : Dev nD × Cl => (reached ER (cell ck.1 ck.2) 0 : sProp 𝕄)) ⊢ reached ER (cell c k) 0 from
    bigSep_elim (Finset.mem_univ (c, k))); iexact H
theorem env_lev (K : Dev nD × Cl → ℕ) : env I K ⊢ (levAts L lv : sProp 𝕄) := by
  unfold env; iintro ⟨-, H⟩; iexact H

/-- What a device holds of a transfer, by its state. -/
def tRes (c : Dev nD) (x : Tr) : Ph → sProp 𝕄
  | .no => iprop(dutyTok ER (cell c (.s x)) 0 .R ∗ dutyTok ER (cell (x.tgt c) (.r x)) 0 .R
      ∗ atPos ER (cell c (.s x)) 0 ∅ 0 ∗ atPos ER (cell c (.r x)) 0 ∅ 0 ∗ cred (tallyAt (cell c (.r x)) () x.N))
  | .rdy => iprop((dutyTok ER (cell c (.s x)) 0 .R ∗ dutyTok ER (cell (x.tgt c) (.r x)) 0 .R
      ∗ atPos ER (cell c (.s x)) 0 ∅ 0 ∗ atPos ER (cell c (.r x)) 0 ∅ 0 ∗ cred (tallyAt (cell c (.r x)) () x.N))
      ∗ free x.dstS (x.tgt c))
  | .fly => iprop(atPos ER (cell c (.s x)) 0 ∅ 0 ∗ cred (tallyAt (cell c (.s x)) () x.N)
      ∗ atPos ER (cell c (.r x)) 0 ∅ 0 ∗ cred (tallyAt (cell c (.r x)) () x.N))
  | .got => iprop(atPos ER (cell c (.s x)) 0 ∅ 0 ∗ cred (tallyAt (cell c (.s x)) () x.N) ∗ atPos ER (cell c (.r x)) 1 ∅ 0)
  | .don => iprop(atPos ER (cell c (.s x)) 1 ∅ 0 ∗ atPos ER (cell c (.r x)) 1 ∅ 0)

/-- The state of a slot: held with anything in it, held with its block in it, or lent. -/
inductive Ss | fr | fu | aw
deriving DecidableEq

def sRes (c : Dev nD) (k : Sl) : Ss → sProp 𝕄
  | .fr => free k c | .fu => full I k c | .aw => iprop(emp)

/-- What it holds of the barrier, before and after. -/
def barRes (c : Dev nD) : Bool → sProp 𝕄
  | false => iprop(atPos ER (cell c .bar) 0 ∅ 0 ∗ cred (tallyAt (cell c .bar) () 4)
      ∗ dutyTok ER (cell (toL c) .bar) 0 .R ∗ dutyTok ER (cell (toR c) .bar) 0 .L
      ∗ dutyTok ER (cell (toD c) .bar) 0 .U ∗ dutyTok ER (cell (toU c) .bar) 0 .D)
  | true => atPos ER (cell c .bar) 1 ∅ 0

def owed (b : Bool) (σ : Tr → Ph) (c : Dev nD) : CellTallies nD τ sig Unit := owedT σ c + (if b then 0 else owedB c)

/-- What device `c` holds: whether the barrier is passed, the transfers' states, the slots', and the result's contents. -/
def Inv (c : Dev nD) (b : Bool) (σ : Tr → Ph) (ω : Sl → Ss) (O : OB F) : sProp 𝕄 :=
  iprop(∃ K W, env I K ∗ owes (c : Thread nD τ) (owed b σ c) W ∗ barRes c b
    ∗ (bigSep Finset.univ fun x => tRes c x (σ x)) ∗ (bigSep Finset.univ fun k => sRes I c k (ω k))
    ∗ (((c : Thread nD τ).loc cc0_stg2_0) ↦{fullShare} (O : Buf (Elt F) ((c : Thread nD τ).loc cc0_stg2_0))))

abbrev 𝒱₀ : Variants := Variants.none

/-- The program's meaning on device `c`. -/
abbrev W (c : Dev nD) {α : Type} (p : PB F α) (Q : α → sProp 𝕄) : sProp 𝕄 :=
  wp frame (wpE (defs₀ (F := F)) 𝒱₀ (c : Thread nD τ) none) Set.univ p Q

theorem W_bind {c : Dev nD} {α β : Type} {p : PB F α} {k : α → PB F β} {P : sProp 𝕄} {R : α → sProp 𝕄} {Q : β → sProp 𝕄}
    (h1 : P ⊢ W c p R) (h2 : ∀ a, R a ⊢ W c (k a) Q) : P ⊢ W c (p >>= k) Q := by
  unfold W; rw [wp_bind]; exact h1.trans (wp_mono _ _ _ h2)
theorem W_pure {c : Dev nD} {α : Type} (a : α) (Q : α → sProp 𝕄) : Q a ⊢ W c (pure a) Q := le_wp_ret _ _ _ a Q

theorem W_loop {c : Dev nD} (n : ℕ) (f : Fin n → PB F PUnit) (J : ℕ → sProp 𝕄)
    (h : ∀ s : Fin n, J s.val ⊢ W c (f s) fun _ => J (s.val + 1)) : J 0 ⊢ W c (loop n f) fun _ => J n := by
  induction n generalizing J with
  | zero => exact W_pure (⟨⟩ : PUnit) fun _ => J 0
  | succ n ih =>
    exact W_bind (h 0) fun _ => ih (fun i => f i.succ) (fun m => J (m + 1)) fun s => h s.succ

variable {I}
variable {c : Dev nD} {b : Bool} {σ : Tr → Ph} {ω : Sl → Ss} {O : OB F}

/-! ## What is owed -/

omit [FloatOps F] in
theorem pend_snd {x : Tr} (hσ : σ x = .rdy) : pend σ = insert x (pend (Function.update σ x .fly)) ∧ x ∉ pend (Function.update σ x .fly) := by
  constructor
  · ext y
    simp only [pend, Finset.mem_filter, Finset.mem_univ, true_and, Finset.mem_insert]
    by_cases h : y = x
    · subst h; simp [hσ]
    · rw [Function.update_of_ne h]; simp [h]
  · simp [pend]

theorem owed_snd {x : Tr} (hσ : σ x = .rdy) : owed b σ c = owed b (Function.update σ x .fly) c + owe x c := by
  unfold owed owedT
  rw [(pend_snd hσ).1, Finset.sum_insert (pend_snd hσ).2]
  abel
theorem owed_same {x : Tr} {p : Ph} (h1 : σ x ≠ .rdy) (h2 : σ x ≠ .no) (h3 : p ≠ .rdy) (h4 : p ≠ .no) :
    owed b (Function.update σ x p) c = owed b σ c := by
  have : pend (Function.update σ x p) = pend σ := by
    ext y
    simp only [pend, Finset.mem_filter, Finset.mem_univ, true_and]
    by_cases h : y = x
    · subst h; simp [h1, h2, h3, h4]
    · rw [Function.update_of_ne h]
  unfold owed owedT; rw [this]

theorem owedT_pos {g : GSem nD τ sig} {u : Unit} (h : 0 < owedT σ c g u) : ∃ y ∈ pend σ, g = cell (y.tgt c) (.r y) := by
  by_contra hn
  refine absurd h (Nat.not_lt.mpr (Nat.le_zero.mpr ?_))
  unfold owedT
  rw [Finset.sum_apply, Finsupp.finset_sum_apply]
  refine Finset.sum_eq_zero fun y hy => ?_
  unfold owe
  rw [tallyAt_apply, if_neg fun h' => hn ⟨y, hy, h'.1⟩]
theorem owedB_pos {g : GSem nD τ sig} {u : Unit} (h : 0 < owedB c g u) : ∃ d : Dir, g = cell (d.nb c) .bar := by
  by_contra hn
  refine absurd h (Nat.not_lt.mpr (Nat.le_zero.mpr ?_))
  unfold owedB oweB
  rw [Pi.add_apply, Finsupp.add_apply, Pi.add_apply, Finsupp.add_apply, Pi.add_apply, Finsupp.add_apply,
    tallyAt_apply, tallyAt_apply, tallyAt_apply, tallyAt_apply,
    if_neg fun h' => hn ⟨_, h'.1⟩, if_neg fun h' => hn ⟨_, h'.1⟩, if_neg fun h' => hn ⟨_, h'.1⟩, if_neg fun h' => hn ⟨_, h'.1⟩]

omit [FloatOps F] in
/-- A semaphore may be waited for when its level is below everything owed. -/
theorem mayWait (sm : SemLoc sig) (n : ℕ) (hsm : lv ((c : Thread nD τ), sm) () ≤ n) (hT : ∀ y ∈ pend σ, n < 2 + y.ord) (hB : b = true ∨ n = 0) :
    (levAts L lv : sProp 𝕄) ⊢ MayWait (c : Thread nD τ) sm () (owed b σ c) := by
  have key (g : GSem nD τ sig) (u : Unit) (h : 0 < owed b σ c g u) : ∃ (c' : Dev nD) (k : Cl), g = cell c' k ∧ n < lvl k := by
    unfold owed at h
    rw [Pi.add_apply, Finsupp.add_apply] at h
    rcases Nat.eq_zero_or_pos (owedT σ c g u) with h0 | h0
    · rcases hB with rfl | rfl
      · rw [h0] at h; exact absurd h (Nat.lt_irrefl 0)
      · cases b with
        | true => rw [h0] at h; exact absurd h (Nat.lt_irrefl 0)
        | false =>
          obtain ⟨d, hd⟩ := owedB_pos (c := c) (g := g) (u := u) (by rw [h0, Nat.zero_add] at h; exact h)
          exact ⟨_, _, hd, Nat.one_pos⟩
    · obtain ⟨y, hy, hg⟩ := owedT_pos h0
      exact ⟨_, _, hg, hT y hy⟩
  refine MayOwe.of_cut (L := L) (lev := lv) n (fun p hp => by rw [Finset.mem_singleton.mp hp, L_tc]; exact Finset.mem_singleton_self _)
    (fun g u hg => ?_) (fun p hp => by rw [Finset.mem_singleton.mp hp]; exact hsm) (fun g u hg => ?_)
  · obtain ⟨c', k, rfl, -⟩ := key g u hg; rw [L_tc]; exact Finset.mem_singleton_self _
  · obtain ⟨c', k, rfl, h⟩ := key g u hg; rw [lv_cell]; exact h

/-! ## The transfers' steps -/

theorem snd_ok (x : Tr) (hσ : σ x = .rdy) (hω : ω x.srcS = .fu) :
    Inv I c b σ ω O ⊢ W c (snd x c) fun _ => Inv I c b (Function.update σ x .fly) (Function.update ω x.srcS .aw) O := by
  unfold Inv snd W
  iintro ⟨%K, %Wt, #He, HO, HB, HT, HS, Hout⟩
  ihave HT := (bigSep_univ_turn (fun x p => tRes (F := F) c x p) σ x) $$ HT
  ihave HS := (bigSep_univ_turn (fun k p => sRes I c k p) ω x.srcS) $$ HS
  rw [hσ, hω]
  icases HT with ⟨Hx, HT⟩
  icases HS with ⟨Hs, HS⟩
  ihave Hs := (Entails.of_eq (show sRes I c x.srcS .fu = iprop(∃ f, ⌜x.src.view.read (Elt F) f = I.pk x c⌝
      ∗ (x.src.view.loc (c : Thread nD τ) ↦[x.src.view.set]{fullShare} f)) from full_src I x c)) $$ Hs
  icases Hs with ⟨%fs, %hfs, Hs⟩
  ihave Hx := (Entails.of_eq (show tRes (F := F) c x .rdy = iprop((dutyTok ER (cell c (.s x)) 0 .R ∗ dutyTok ER (cell (x.tgt c) (.r x)) 0 .R
      ∗ atPos ER (cell c (.s x)) 0 ∅ 0 ∗ atPos ER (cell c (.r x)) 0 ∅ 0 ∗ cred (tallyAt (cell c (.r x)) () x.N))
      ∗ (∃ X, owns ((x.tgt c : Dev nD) : Thread nD τ) x.dst fullShare X)) from by rw [← free_dst]; rfl)) $$ Hx
  unfold owns
  icases Hx with ⟨⟨Hts, Htr, Has, Har, Hcr⟩, ⟨%X, %fd, -, Hd⟩⟩
  unfold Prog.lift
  iapply (Rounds.wp_send_pointsTo 𝒱₀ ER (sch I) (c : Thread nD τ) none (κ₁ := K (c, .s x)) (κ₂ := K (x.tgt c, .r x))
    (c' := ((x.tgt c : Dev nD) : Thread nD τ))
    (r₁ := 0) (r₂ := 0) (d₁ := .R) (d₂ := .R) (fd := fd) (fs := fs)
    (by rw [show (((c : Thread nD τ), SemLoc.dma x.ssem) : GSem nD τ sig) = cell c (.s x) from rfl, sch_duties]; exact Finset.mem_singleton_self _)
    (by rw [show ((((x.tgt c : Dev nD) : Thread nD τ), SemLoc.dma x.rsem) : GSem nD τ sig) = cell (x.tgt c) (.r x) from rfl, sch_duties]; exact Finset.mem_singleton_self _)
    () () x.N rfl (sch_amount I c (.s x) .R) (sch_amount I (x.tgt c) (.r x) .R) (owed b (Function.update σ x .fly) c) (owed_snd hσ) (W := Wt)
    (by
      rw [show (((c : Thread nD τ), SemLoc.dma x.ssem) : GSem nD τ sig) = cell c (.s x) from rfl, sch_payload]
      show _ ⊢ full I x.srcS c
      rw [full_src, ← hfs]; exact owns_intro _ _ _ _)
    (by
      rw [show ((((x.tgt c : Dev nD) : Thread nD τ), SemLoc.dma x.rsem) : GSem nD τ sig) = cell (x.tgt c) (.r x) from rfl, sch_payload]
      show _ ⊢ full I x.dstS (x.tgt c)
      rw [full_dst, x.frm_tgt, ← hfs]
      refine (owns_intro _ _ _ _).trans (Entails.of_eq ?_)
      rw [View.read_write_univ])) $$ [Hs Hd HO Hts Htr]
  · isplitr; · iapply (env_inv I K c (.s x)); iexact He
    isplitr; · iapply (env_inv I K (x.tgt c) (.r x)); iexact He
    isplitl [Hs]; · iexact Hs
    isplitl [Hd]; · iexact Hd
    isplitl [HO]; · iexact HO
    isplitl [Hts]; · iexact Hts
    isplitr; · iapply (env_reached I K c (.s x)); iexact He
    isplitl [Htr]; · iexact Htr
    iapply (env_reached I K (x.tgt c) (.r x)); iexact He
  iintro ⟨Hcs, HO⟩
  rw [wp_ret]; imodintro
  iexists K, Wt
  isplitr; · iexact He
  isplitl [HO]; · iexact HO
  isplitl [HB]; · iexact HB
  isplitl [HT Has Har Hcr Hcs]
  · iapply HT
    unfold tRes
    isplitl [Has]; · iexact Has
    isplitl [Hcs]; · iexact Hcs
    isplitl [Har]; · iexact Har
    iexact Hcr
  isplitl [HS]
  · iapply HS
    unfold sRes; iempintro
  iexact Hout

theorem waitR_ok (x : Tr) (hσ : σ x = .fly) (hω : ω x.dstS = .aw) (hord : ∀ y, σ y = .rdy ∨ σ y = .no → x.ord < y.ord) :
    Inv I c true σ ω O ⊢ W c (waitR x) fun _ => Inv I c true (Function.update σ x .got) (Function.update ω x.dstS .fu) O := by
  unfold Inv waitR W
  iintro ⟨%K, %Wt, #He, HO, HB, HT, HS, Hout⟩
  ihave HT := (bigSep_univ_turn (fun x p => tRes (F := F) c x p) σ x) $$ HT
  ihave HS := (bigSep_univ_turn (fun k p => sRes I c k p) ω x.dstS) $$ HS
  rw [hσ, hω]
  icases HT with ⟨Hx, HT⟩
  icases HS with ⟨-, HS⟩
  ihave Hx := (Entails.of_eq (show tRes (F := F) c x .fly = iprop(atPos ER (cell c (.s x)) 0 ∅ 0 ∗ cred (tallyAt (cell c (.s x)) () x.N)
      ∗ atPos ER (cell c (.r x)) 0 ∅ 0 ∗ cred (tallyAt (cell c (.r x)) () x.N)) from rfl)) $$ Hx
  icases Hx with ⟨Has, Hcs, Har, Hcr⟩
  unfold Prog.lift
  iapply (Rounds.wp_wait_rest_token 𝒱₀ ER (sch I) (c : Thread nD τ) none (κ := K (c, .r x))
      (wpE_waitDma2_eq 𝒱₀ (c : Thread nD τ) none Set.univ) (Set.mem_univ _) () (O := owed true σ c) (W := Wt) (R := 0) (m := 0) (T := ∅)
      (by rw [show (((c : Thread nD τ), SemLoc.dma x.rsem) : GSem nD τ sig) = cell c (.r x) from rfl, sch_expect, Nat.zero_add]; exact (Nat.one_mul _).symm)) $$ [Hcr HO Har]
  · isplitr; · iapply (env_inv I K c (.r x)); iexact He
    isplitl [Hcr]; · iexact Hcr
    isplitl [HO]; · iexact HO
    isplitr
    · have hmw : env I K ⊢ MayWait (c : Thread nD τ) (SemLoc.dma x.rsem) () (owed true σ c) := by
        refine (env_lev I K).trans ?_
        exact (mayWait (SemLoc.dma x.rsem) (2 + x.ord) (by rw [show (((c : Thread nD τ), SemLoc.dma x.rsem) : GSem nD τ sig) = cell c (.r x) from rfl, lv_cell]; exact Nat.le_refl _) (fun y hy => Nat.add_lt_add_left (hord y (Finset.mem_filter.mp hy).2) 2) (Or.inl rfl))
      iapply hmw; iexact He
    iexact Har
  iintro ⟨HO, Har, -, Hp⟩
  ihave Hp := (Entails.of_eq ((sch_rest I c (.r x)).trans (show (bigSep {Dir.R} fun d => pay I c (.r x) d) = full I x.dstS c from bigSep_singleton))) $$ Hp
  rw [wp_ret]; imodintro
  iexists K, (insert (SemLoc.dma x.rsem, ()) Wt)
  isplitr; · iexact He
  isplitl [HO]; · rw [owed_same (by rw [hσ]; decide) (by rw [hσ]; decide) (by decide) (by decide)]; iexact HO
  isplitl [HB]; · iexact HB
  isplitl [HT Has Har Hcs]
  · iapply HT
    unfold tRes
    isplitl [Has]; · iexact Has
    isplitl [Hcs]; · iexact Hcs
    iexact Har
  isplitl [HS Hp]
  · iapply HS
    unfold sRes; iexact Hp
  iexact Hout

theorem waitS_ok (x : Tr) (hσ : σ x = .got) (hω : ω x.srcS = .aw) :
    Inv I c true σ ω O ⊢ W c (waitS x) fun _ => Inv I c true (Function.update σ x .don) (Function.update ω x.srcS .fu) O := by
  unfold Inv waitS W
  iintro ⟨%K, %Wt, #He, HO, HB, HT, HS, Hout⟩
  ihave HT := (bigSep_univ_turn (fun x p => tRes (F := F) c x p) σ x) $$ HT
  ihave HS := (bigSep_univ_turn (fun k p => sRes I c k p) ω x.srcS) $$ HS
  rw [hσ, hω]
  icases HT with ⟨Hx, HT⟩
  icases HS with ⟨-, HS⟩
  ihave Hx := (Entails.of_eq (show tRes (F := F) c x .got = iprop(atPos ER (cell c (.s x)) 0 ∅ 0 ∗ cred (tallyAt (cell c (.s x)) () x.N)
      ∗ atPos ER (cell c (.r x)) 1 ∅ 0) from rfl)) $$ Hx
  icases Hx with ⟨Has, Hcs, Har⟩
  unfold Prog.lift
  iapply (Rounds.wp_wait_rest_token 𝒱₀ ER (sch I) (c : Thread nD τ) none (κ := K (c, .s x)) (k' := x.wsrc.view.dmaCredit)
      (wpE_waitDma2_eq 𝒱₀ (c : Thread nD τ) none Set.univ) (Set.mem_univ _) () (O := owed true σ c) (W := Wt) (R := 0) (m := 0) (T := ∅)
      (by rw [show (((c : Thread nD τ), SemLoc.dma x.ssem) : GSem nD τ sig) = cell c (.s x) from rfl, sch_expect, Nat.zero_add, x.N_wsrc]; exact (Nat.one_mul _).symm)) $$ [Hcs HO Has]
  · isplitr; · iapply (env_inv I K c (.s x)); iexact He
    isplitl [Hcs]; · rw [x.N_wsrc]; iexact Hcs
    isplitl [HO]; · iexact HO
    isplitr
    · have hmw : env I K ⊢ MayWait (c : Thread nD τ) (SemLoc.dma x.ssem) () (owed true σ c) := by
        refine (env_lev I K).trans ?_
        exact (mayWait (SemLoc.dma x.ssem) 0 (by rw [show (((c : Thread nD τ), SemLoc.dma x.ssem) : GSem nD τ sig) = cell c (.s x) from rfl, lv_cell]; exact Nat.le_refl _) (fun y _ => by omega) (Or.inl rfl))
      iapply hmw; iexact He
    iexact Has
  iintro ⟨HO, Has, -, Hp⟩
  ihave Hp := (Entails.of_eq ((sch_rest I c (.s x)).trans (show (bigSep {Dir.R} fun d => pay I c (.s x) d) = full I x.srcS c from bigSep_singleton))) $$ Hp
  rw [wp_ret]; imodintro
  iexists K, (insert (SemLoc.dma x.ssem, ()) Wt)
  isplitr; · iexact He
  isplitl [HO]; · rw [owed_same (by rw [hσ]; decide) (by rw [hσ]; decide) (by decide) (by decide)]; iexact HO
  isplitl [HB]; · iexact HB
  isplitl [HT Has Har]
  · iapply HT
    unfold tRes
    isplitl [Has]; · iexact Has
    iexact Har
  isplitl [HS Hp]
  · iapply HS
    unfold sRes; iexact Hp
  iexact Hout

/-! ## The slots' steps -/

theorem ldS_full {n r : ℕ} [NeZero r] (M : Memref sig .tc .vmem (St n r) .bf16) (i : Fin n) (k : Sl) (X : Vec F (Bk r) .bf16)
    (hk : full I k c = owns (c : Thread nD τ) (slot M i) fullShare X) (hω : ω k = .fu) :
    Inv I c b σ ω O ⊢ W c (ldS M i) fun w => iprop(⌜shapeCast (Bk r) w (bk_cast r) = X⌝ ∗ Inv I c b σ ω O) := by
  unfold Inv ldS W
  iintro ⟨%K, %Wt, #He, HO, HB, HT, HS, Hout⟩
  ihave HS := (bigSep_univ_update (Φ := fun k => sRes I c k (ω k)) (Ψ := fun k => sRes I c k (ω k)) k (fun _ _ => rfl)) $$ HS
  icases HS with ⟨Hs, HS⟩
  ihave Hs := (Entails.of_eq (show sRes I c k (ω k) = iprop(∃ f, ⌜(slot M i).view.read (Elt F) f = X⌝
      ∗ ((slot M i).view.loc (c : Thread nD τ) ↦[(slot M i).view.set]{fullShare} f)) from by rw [hω]; exact hk)) $$ Hs
  icases Hs with ⟨%f, %hf, Hs⟩
  unfold Prog.lift
  iapply (wp_load_rect 𝒱₀ (c : Thread nD τ) none Set.univ (m := M) (r := slotR r i) (S := (slot M i).view.set) (f := f)
    (by rw [Memref.set_view_squeeze])) $$ Hs
  iintro Hs
  rw [wp_ret]; imodintro
  isplitr; · ipureintro; exact hf
  iexists K, Wt
  isplitr; · iexact He
  isplitl [HO]; · iexact HO
  isplitl [HB]; · iexact HB
  isplitl [HT]; · iexact HT
  isplitl [HS Hs]
  · iapply HS
    iapply (Entails.of_eq (show sRes I c k (ω k) = iprop(∃ f, ⌜(slot M i).view.read (Elt F) f = X⌝
      ∗ ((slot M i).view.loc (c : Thread nD τ) ↦[(slot M i).view.set]{fullShare} f)) from by rw [hω]; exact hk).symm)
    iexists f; isplitr; · ipureintro; exact hf
    iexact Hs
  iexact Hout

theorem ldS_free {n r : ℕ} [NeZero r] (M : Memref sig .tc .vmem (St n r) .bf16) (i : Fin n) (k : Sl)
    (hk : (free k c : sProp 𝕄) = iprop(∃ X, owns (c : Thread nD τ) (slot M i) fullShare X)) (hω : ω k = .fr) :
    Inv I c b σ ω O ⊢ W c (ldS M i) fun _ => Inv I c b σ ω O := by
  unfold Inv ldS W
  iintro ⟨%K, %Wt, #He, HO, HB, HT, HS, Hout⟩
  ihave HS := (bigSep_univ_update (Φ := fun k => sRes I c k (ω k)) (Ψ := fun k => sRes I c k (ω k)) k (fun _ _ => rfl)) $$ HS
  icases HS with ⟨Hs, HS⟩
  ihave Hs := (Entails.of_eq (show sRes I c k (ω k) = iprop(∃ X f, ⌜(slot M i).view.read (Elt F) f = X⌝
      ∗ ((slot M i).view.loc (c : Thread nD τ) ↦[(slot M i).view.set]{fullShare} f)) from by rw [hω]; exact hk)) $$ Hs
  icases Hs with ⟨%X, %f, %hf, Hs⟩
  unfold Prog.lift
  iapply (wp_load_rect 𝒱₀ (c : Thread nD τ) none Set.univ (m := M) (r := slotR r i) (S := (slot M i).view.set) (f := f)
    (by rw [Memref.set_view_squeeze])) $$ Hs
  iintro Hs
  rw [wp_ret]; imodintro
  iexists K, Wt
  isplitr; · iexact He
  isplitl [HO]; · iexact HO
  isplitl [HB]; · iexact HB
  isplitl [HT]; · iexact HT
  isplitl [HS Hs]
  · iapply HS
    iapply (Entails.of_eq (show sRes I c k (ω k) = iprop(∃ X f, ⌜(slot M i).view.read (Elt F) f = X⌝
      ∗ ((slot M i).view.loc (c : Thread nD τ) ↦[(slot M i).view.set]{fullShare} f)) from by rw [hω]; exact hk).symm)
    iexists X, f; isplitr; · ipureintro; exact hf
    iexact Hs
  iexact Hout

theorem stS_ok {n r : ℕ} [NeZero r] (M : Memref sig .tc .vmem (St n r) .bf16) (hM : M.IsWhole) (i : Fin n) (k : Sl) (w : Vec F (St 1 r) .bf16)
    (hk : (free k c : sProp 𝕄) = iprop(∃ X, owns (c : Thread nD τ) (slot M i) fullShare X))
    (hk' : full I k c = owns (c : Thread nD τ) (slot M i) fullShare (shapeCast (Bk r) w (bk_cast r))) (hω : ω k = .fr) :
    Inv I c b σ ω O ⊢ W c (stS M hM i w) fun _ => Inv I c b σ (Function.update ω k .fu) O := by
  unfold Inv stS W
  iintro ⟨%K, %Wt, #He, HO, HB, HT, HS, Hout⟩
  ihave HS := (bigSep_univ_turn (fun k p => sRes I c k p) ω k) $$ HS
  icases HS with ⟨Hs, HS⟩
  ihave Hs := (Entails.of_eq (show sRes I c k (ω k) = iprop(∃ X f, ⌜(slot M i).view.read (Elt F) f = X⌝
      ∗ ((slot M i).view.loc (c : Thread nD τ) ↦[(slot M i).view.set]{fullShare} f)) from by rw [hω]; exact hk)) $$ Hs
  icases Hs with ⟨%X, %f, -, Hs⟩
  unfold Prog.lift
  iapply (wp_store 𝒱₀ (c : Thread nD τ) none Set.univ (m := M) (r := slotR r i) (Mk := Finset.univ) (S := (slot M i).view.set) (f := f)
    (by rw [Memref.set_view_squeeze]; exact Finset.Subset.refl _)) $$ Hs
  iintro Hs
  rw [wp_ret]; imodintro
  iexists K, Wt
  isplitr; · iexact He
  isplitl [HO]; · iexact HO
  isplitl [HB]; · iexact HB
  isplitl [HT]; · iexact HT
  isplitl [HS Hs]
  · iapply HS
    iapply (Entails.of_eq (show sRes I c k .fu = iprop(∃ f, ⌜(slot M i).view.read (Elt F) f = shapeCast (Bk r) w (bk_cast r)⌝
      ∗ ((slot M i).view.loc (c : Thread nD τ) ↦[(slot M i).view.set]{fullShare} f)) from hk').symm)
    iexists ((M.access (slotR r i)).write (Elt F) f w Finset.univ); isplitr
    · ipureintro
      exact congrArg (fun u => shapeCast (Bk r) u (bk_cast r)) (View.read_write_univ (v := M.access (slotR r i)) f w)
    iexact Hs
  iexact Hout

/-! ## The result's steps -/

theorem ldO_ok {r : ℕ} [NeZero r] (p : Place r) :
    Inv I c b σ ω O ⊢ W c (ldO p) fun v => iprop(⌜v = get O p⌝ ∗ Inv I c b σ ω O) := by
  unfold Inv ldO W
  iintro ⟨%K, %Wt, #He, HO, HB, HT, HS, Hout⟩
  unfold Prog.lift
  iapply (wp_load 𝒱₀ (c : Thread nD τ) none Set.univ (m := Om) (Finset.subset_univ _)) $$ Hout
  iintro Hout
  rw [wp_ret]; imodintro
  isplitr; · ipureintro; rfl
  iexists K, Wt
  isplitr; · iexact He
  isplitl [HO]; · iexact HO
  isplitl [HB]; · iexact HB
  isplitl [HT]; · iexact HT
  isplitl [HS]; · iexact HS
  iexact Hout

theorem stO_ok {r : ℕ} [NeZero r] (p : Place r) (w : Vec F (Bk r) .f32) :
    Inv I c b σ ω O ⊢ W c (stO p w) fun _ => Inv I c b σ ω (put O p w) := by
  unfold Inv stO W
  iintro ⟨%K, %Wt, #He, HO, HB, HT, HS, Hout⟩
  unfold Prog.lift
  iapply (wp_store 𝒱₀ (c : Thread nD τ) none Set.univ (m := Om) (r := p.rect) (Mk := Finset.univ) (Finset.subset_univ _)) $$ Hout
  iintro Hout
  rw [wp_ret]; imodintro
  iexists K, Wt
  isplitr; · iexact He
  isplitl [HO]; · iexact HO
  isplitl [HB]; · iexact HB
  isplitl [HT]; · iexact HT
  isplitl [HS]; · iexact HS
  iexact Hout

end Cert.Proof

end
-- ==== Proof.Bar.lean ====
/-
  The barrier: a device lends its landing slots to its neighbours and takes theirs.
-/
module

public import proofs.«01_k».proof.Proof.Steps

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : In F} {c : Dev nD} {ω : Sl → Ss} {O : OB F}

/-- The landing slots. -/
def land : Finset Sl := Finset.univ.map ⟨Tr.dstS, dstS_inj⟩

omit [FloatOps F] in
theorem bigSep_dir (Φ : Dir → sProp 𝕄) : bigSep Finset.univ Φ = iprop(Φ .R ∗ Φ .L ∗ Φ .U ∗ Φ .D) := by
  show bigSep {Dir.R, Dir.L, Dir.U, Dir.D} Φ = _
  rw [bigSep_insert (by decide), bigSep_insert (by decide), bigSep_insert (by decide), bigSep_singleton]; rfl

omit [FloatOps F] in
/-- A family dealt out by direction. -/
theorem bigSep_deal (f : Tr → Dir) (Φ : Tr → sProp 𝕄) :
    bigSep Finset.univ Φ = bigSep Finset.univ fun d => bigSep Finset.univ fun x => if f x = d then Φ x else iprop(emp) := by
  rw [bigSep_dir, ← bigSep_sep', ← bigSep_sep', ← bigSep_sep']
  refine bigSep_congr fun x _ => ?_
  have he (P : sProp 𝕄) : iprop(emp ∗ P) = P := emp_sep_eq P
  have he' (P : sProp 𝕄) : iprop(P ∗ emp) = P := equiv_iff.mp sep_emp
  cases f x
  · rw [if_pos rfl, if_neg (by decide), if_neg (by decide), if_neg (by decide), he, he, he']
  · rw [if_neg (by decide), if_pos rfl, if_neg (by decide), if_neg (by decide), he, he, he']
  · rw [if_neg (by decide), if_neg (by decide), if_pos rfl, if_neg (by decide), he, he, he']
  · rw [if_neg (by decide), if_neg (by decide), if_neg (by decide), if_pos rfl, he, he, he]

omit [FloatOps F] in
/-- The landing slots, by the direction of the transfers that fill them: each direction's go to the neighbour they come from. -/
theorem lend : (bigSep Finset.univ fun x : Tr => free (F := F) x.dstS c)
    = iprop(barPay (toL c) .R ∗ barPay (toR c) .L ∗ barPay (toD c) .U ∗ barPay (toU c) .D) := by
  have h (d : Dir) : (barPay (d.op.nb c) d : sProp 𝕄) = bigSep Finset.univ fun x : Tr => if x.dir = d then free x.dstS c else iprop(emp) := by
    unfold barPay; rw [Dir.nb_op]
  rw [bigSep_deal Tr.dir, bigSep_dir, ← h .R, ← h .L, ← h .U, ← h .D]; rfl

omit [FloatOps F] in
/-- What the four signals bring: the slots this device's own transfers fill. -/
theorem taken : (bigSep Finset.univ fun d : Dir => barPay (F := F) c d) = bigSep Finset.univ fun x : Tr => free (F := F) x.dstS (x.tgt c) := by
  rw [bigSep_deal Tr.dir]
  refine bigSep_congr fun d _ => ?_
  unfold barPay
  refine bigSep_congr fun x _ => ?_
  by_cases h : x.dir = d
  · rw [if_pos h, if_pos h, x.tgt_eq, h]
  · rw [if_neg h, if_neg h]

theorem lent (h : ∀ x : Tr, ω x.dstS = .fr) : (bigSep Finset.univ fun k => sRes I c k (ω k))
    = iprop((bigSep Finset.univ fun x : Tr => free x.dstS c) ∗ bigSep Finset.univ fun k => sRes I c k (if k ∈ land then .aw else ω k)) := by
  rw [bigSep_sdiff_split (Finset.subset_univ land), bigSep_sdiff_split (Φ := fun k => sRes I c k (if k ∈ land then .aw else ω k)) (Finset.subset_univ land)]
  have h1 : (bigSep land fun k => sRes I c k (ω k)) = bigSep Finset.univ fun x : Tr => free x.dstS c := by
    unfold land; rw [bigSep_map]
    refine bigSep_congr fun x _ => ?_
    show sRes I c x.dstS (ω x.dstS) = _
    rw [h]; rfl
  have h2 : (bigSep land fun k => sRes I c k (if k ∈ land then .aw else ω k)) = (iprop(emp) : sProp 𝕄) := by
    rw [bigSep_congr (Ψ := fun _ => (iprop(emp) : sProp 𝕄)) fun k hk => by rw [if_pos hk]; rfl]
    exact bigSep_emp_const _
  have h3 : (bigSep (Finset.univ \ land) fun k => sRes I c k (if k ∈ land then .aw else ω k)) = bigSep (Finset.univ \ land) fun k => sRes I c k (ω k) :=
    bigSep_congr fun k hk => by rw [if_neg (Finset.mem_sdiff.mp hk).2]
  rw [h1, h2, h3]; exact congrArg _ (emp_sep_eq _).symm

/-- One signal. -/
theorem sig_step (K : Dev nD × Cl → ℕ) (e : Dir) (n : Dev nD) (hn : n = e.nb c) (d : Dir) (O₀ O' : CellTallies nD τ sig Unit)
    (hO : O₀ = O' + oweB c e) {Wt : Waits sig Unit} {k : PUnit → PB F PUnit} {Q : PUnit → sProp 𝕄} :
    iprop(env I K ∗ owes (c : Thread nD τ) O₀ Wt ∗ dutyTok ER (cell n .bar) 0 d ∗ barPay n d)
      ⊢ iprop((owes (c : Thread nD τ) O' Wt -∗ W c (k ⟨⟩) Q) -∗ W c (.op (.semSignal (n : Thread nD τ) barS (1#32).toNat) k) Q) := by
  have hO' : O₀ = O' + tallyAt (cell n .bar) () (1#32).toNat := by rw [hO, hn]; rfl
  unfold W
  iintro ⟨#He, HO, Ht, Hl⟩
  iapply (Rounds.wp_signal 𝒱₀ ER (sch I) (c : Thread nD τ) none (dst := (n : Thread nD τ)) (sem := barS) (κ := K (n, .bar)) (W := Wt)
      (d := d) (show d ∈ (sch I).duties (cell n .bar) 0 by rw [sch_duties]; exact Finset.mem_univ _) ((sch_amount I n .bar d).trans (by decide)) () O' hO') $$ [HO Ht Hl]
  isplitr; · iapply (env_inv I K n .bar); iexact He
  isplitl [HO]; · iexact HO
  isplitl [Ht]; · iexact Ht
  isplitl [Hl]
  · iapply (Entails.of_eq ((sch_payload I n .bar d).trans (show pay I n .bar d = barPay n d from rfl)).symm); iexact Hl
  iapply (env_reached I K n .bar); iexact He

theorem barrier_ok (h : ∀ x : Tr, ω x.dstS = .fr) :
    Inv I c false (fun _ => .no) ω O ⊢ W c (barrier c) fun _ => Inv I c true (fun _ => .rdy) (fun k => if k ∈ land then .aw else ω k) O := by
  unfold Inv barrier W
  simp only [semSignalWord, semWaitWord, Prog.lift, Prog.bind_op, Prog.bind_ret, Prog.pure_eq_ret]
  iintro ⟨%K, %Wt, #He, HO, HB, HT, HS, Hout⟩
  ihave HB := (Entails.of_eq (show barRes (F := F) c false = iprop(atPos ER (cell c .bar) 0 ∅ 0 ∗ cred (tallyAt (cell c .bar) () 4)
      ∗ dutyTok ER (cell (toL c) .bar) 0 .R ∗ dutyTok ER (cell (toR c) .bar) 0 .L
      ∗ dutyTok ER (cell (toD c) .bar) 0 .U ∗ dutyTok ER (cell (toU c) .bar) 0 .D) from rfl)) $$ HB
  icases HB with ⟨Hat, Hc, HtL, HtR, HtD, HtU⟩
  ihave HS := (Entails.of_eq (lent (I := I) (c := c) h)) $$ HS
  icases HS with ⟨HL, HS⟩
  ihave HL := (Entails.of_eq (lend (F := F) (c := c))) $$ HL
  icases HL with ⟨HlL, HlR, HlD, HlU⟩
  iapply (sig_step K .L (toL c) rfl .R (owed false (fun _ => .no) c) (owedT (fun _ => .no) c + (oweB c .U + oweB c .D + oweB c .R))
      (by unfold owed owedB; rw [if_neg (by decide), ← add_assoc])) $$ [HO HtL HlL]
  · isplitr; · iexact He
    isplitl [HO]; · iexact HO
    isplitl [HtL]; · iexact HtL
    iexact HlL
  iintro HO
  iapply (sig_step K .R (toR c) rfl .L (owedT (fun _ => .no) c + (oweB c .U + oweB c .D + oweB c .R)) (owedT (fun _ => .no) c + (oweB c .U + oweB c .D))
      (add_assoc _ _ _).symm) $$ [HO HtR HlR]
  · isplitr; · iexact He
    isplitl [HO]; · iexact HO
    isplitl [HtR]; · iexact HtR
    iexact HlR
  iintro HO
  iapply (sig_step K .D (toD c) rfl .U (owedT (fun _ => .no) c + (oweB c .U + oweB c .D)) (owedT (fun _ => .no) c + oweB c .U)
      (add_assoc _ _ _).symm) $$ [HO HtD HlD]
  · isplitr; · iexact He
    isplitl [HO]; · iexact HO
    isplitl [HtD]; · iexact HtD
    iexact HlD
  iintro HO
  iapply (sig_step K .U (toU c) rfl .D (owedT (fun _ => .no) c + oweB c .U) (owed true (fun _ => .rdy) c)
      (by unfold owed; rw [if_pos rfl, add_zero]; rfl)) $$ [HO HtU HlU]
  · isplitr; · iexact He
    isplitl [HO]; · iexact HO
    isplitl [HtU]; · iexact HtU
    iexact HlU
  iintro HO
  iapply (Rounds.wp_wait_rest_token 𝒱₀ ER (sch I) (c : Thread nD τ) none (κ := K (c, .bar))
      (wpE_semWait_eq 𝒱₀ (c : Thread nD τ) none Set.univ) (Set.mem_univ _) () (O := owed true (fun _ => .rdy) c) (W := Wt) (R := 0) (m := 0) (T := ∅)
      ((congrArg (0 + ·) rfl).trans (sch_expect I c .bar).symm)) $$ [Hc HO Hat]
  · isplitr; · iapply (env_inv I K c .bar); iexact He
    isplitl [Hc]; · iexact Hc
    isplitl [HO]; · iexact HO
    isplitr
    · have hmw : env I K ⊢ MayWait (c : Thread nD τ) (SemLoc.reg barS) () (owed true (fun _ => .rdy) c) :=
        (env_lev I K).trans (mayWait (SemLoc.reg barS) 1 (le_of_eq (lv_cell c .bar ())) (fun y _ => by omega) (Or.inl rfl))
      iapply hmw; iexact He
    iexact Hat
  iintro ⟨HO, Hat, -, Hp⟩
  ihave Hp := (Entails.of_eq ((sch_rest I c .bar).trans (taken (F := F) (c := c)))) $$ Hp
  rw [wp_ret]; imodintro
  iexists K, (insert (SemLoc.reg barS, ()) Wt)
  isplitr; · iexact He
  isplitl [HO]; · iexact HO
  isplitl [Hat]; · unfold barRes; iexact Hat
  isplitl [HT Hp]
  · ihave H := (Entails.of_eq (bigSep_sep' Finset.univ (fun x => tRes (F := F) c x .no) (fun x : Tr => free (F := F) x.dstS (x.tgt c))).symm) $$ [HT Hp]
    · isplitl [HT]; · iexact HT
      iexact Hp
    iexact H
  isplitl [HS]; · iexact HS
  iexact Hout

end Cert.Proof

end
-- ==== Proof.Deal.lean ====
/-
  What the launch deals: every cell's invariant, allocated for all devices at once; to every device its own cells' positions, the
  right to pay each duty it pays, and the credit for the units it waits for.
-/
module

public import proofs.«01_k».proof.Proof.Bar
public import Idealize.ShloMosaic.Lib.Pipeline.Launch

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : In F)

/-! ## Cells -/

/-- The transfers' semaphores: the senders', then the receivers'. -/
def osem : Tr ⊕ Tr → SemLoc sig := Sum.elim (fun x => .dma x.ssem) (fun x => .dma x.rsem)

theorem ownSemFacts : Pipeline.OwnSemFacts cfg0.spec osem := by decide +kernel

/-- A device's cells, one by one. -/
def clIn : Unit ⊕ (Tr ⊕ Tr) → Cl := Sum.elim (fun _ => .bar) (Sum.elim .s .r)
theorem clIn_bij : Function.Bijective clIn := by
  refine ⟨?_, fun k => ?_⟩
  · rintro (_ | x | x) (_ | y | y) h <;> cases h <;> rfl
  · cases k with
    | bar => exact ⟨.inl (), rfl⟩
    | s x => exact ⟨.inr (.inl x), rfl⟩
    | r x => exact ⟨.inr (.inr x), rfl⟩

omit [FloatOps F] in
theorem bigSep_cl (Φ : Cl → sProp 𝕄) : bigSep Finset.univ Φ
    = iprop(Φ .bar ∗ (bigSep Finset.univ fun x => Φ (.s x)) ∗ (bigSep Finset.univ fun x => Φ (.r x))) := by
  have hU (Ψ : Unit → sProp 𝕄) : bigSep Finset.univ Ψ = Ψ () := bigSep_singleton
  rw [bigSep_univ_equiv (Equiv.ofBijective clIn clIn_bij) Φ, bigSep_univ_sum, bigSep_univ_sum, hU]
  rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun x => semVal (cell c (.s x)) 0) ∗ (bigSep Finset.univ fun x => semVal (cell c (.r x)) 0)) := by
  unfold Pipeline.ownSems0; rw [bigSep_univ_sum]; rfl
omit [FloatOps F] in
theorem unscopedSems0_eq (c : Dev nD) : (unscopedSems0 c : sProp 𝕄) = semVal (cell c .bar) 0 := by
  unfold unscopedSems0; rw [bigSep_eq_bigSepL_of_eq [SemLoc.reg barS] (by decide +kernel) (by decide)]; rfl
omit [FloatOps F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun k => semVal (cell c k) 0 : sProp 𝕄) := by
  rw [ownSems0_eq, unscopedSems0_eq, bigSep_cl]

def cells : Finset (GSem nD τ sig) := Finset.univ.map ⟨fun ck : Dev nD × Cl => cell ck.1 ck.2, cell_inj⟩

/-! ## Tokens -/

/-- A device's own cells' duties: a barrier unit from each side, a transfer's units at the sender's cell and at the receiver's. -/
abbrev TokIx : Type := Dir ⊕ (Tr ⊕ Tr)
def tokCell : TokIx → Cl := Sum.elim (fun _ => .bar) (Sum.elim .s .r)
def tokDir : TokIx → Dir := Sum.elim id fun _ => .R
def tokOf (cj : Dev nD × TokIx) : GSem nD τ sig × ℕ × Dir := (cell cj.1 (tokCell cj.2), 0, tokDir cj.2)
theorem tokOf_inj : Function.Injective tokOf := by
  rintro ⟨c, j⟩ ⟨c', j'⟩ h
  have h1 : ((c, tokCell j) : Dev nD × Cl) = (c', tokCell j') := cell_inj (congrArg Prod.fst h)
  have h2 : tokDir j = tokDir j' := congrArg (fun x : GSem nD τ sig × ℕ × Dir => x.2.2) h
  obtain ⟨rfl, h3⟩ := Prod.mk.inj h1
  rcases j with d | x | x <;> rcases j' with d' | y | y <;> cases h3
  · cases h2; rfl
  · rfl
  · rfl
def toks₀ : Finset (GSem nD τ sig × ℕ × Dir) := Finset.univ.map ⟨tokOf, tokOf_inj⟩

/-- The duty tokens of a device's own cells; -/
def toks (c : Dev nD) : sProp 𝕄 :=
  iprop((dutyTok ER (cell c .bar) 0 .R ∗ dutyTok ER (cell c .bar) 0 .L ∗ dutyTok ER (cell c .bar) 0 .U ∗ dutyTok ER (cell c .bar) 0 .D)
    ∗ (bigSep Finset.univ fun x : Tr => dutyTok ER (cell c (.s x)) 0 .R) ∗ (bigSep Finset.univ fun x : Tr => dutyTok ER (cell c (.r x)) 0 .R))
/-- and of the duties it pays. -/
def payToks (c : Dev nD) : sProp 𝕄 :=
  iprop((dutyTok ER (cell (toL c) .bar) 0 .R ∗ dutyTok ER (cell (toR c) .bar) 0 .L ∗ dutyTok ER (cell (toD c) .bar) 0 .U ∗ dutyTok ER (cell (toU c) .bar) 0 .D)
    ∗ (bigSep Finset.univ fun x : Tr => dutyTok ER (cell c (.s x)) 0 .R) ∗ (bigSep Finset.univ fun x : Tr => dutyTok ER (cell (x.tgt c) (.r x)) 0 .R))

/-- A neighbour in a direction is a rearrangement of the devices. -/
def nbE (d : Dir) : Dev nD ≃ Dev nD := ⟨d.nb, d.op.nb, fun c => d.op_nb c, fun c => d.nb_op c⟩
def tgtE : Dev nD × Tr ≃ Dev nD × Tr :=
  ⟨fun cx => (cx.2.tgt cx.1, cx.2), fun cx => (cx.2.frm cx.1, cx.2), fun cx => Prod.ext (cx.2.frm_tgt cx.1) rfl, fun cx => Prod.ext (cx.2.tgt_frm cx.1) rfl⟩

omit [FloatOps F] in
theorem toks_around : (bigSep Finset.univ fun c : Dev nD => (toks c : sProp 𝕄)) ⊢ bigSep Finset.univ fun c : Dev nD => payToks c := by
  unfold toks payToks
  have hr : (bigSep Finset.univ fun c : Dev nD => bigSep Finset.univ fun x : Tr => (dutyTok ER (cell c (.r x)) 0 .R : sProp 𝕄))
      = bigSep Finset.univ fun c : Dev nD => bigSep Finset.univ fun x : Tr => (dutyTok ER (cell (x.tgt c) (.r x)) 0 .R : sProp 𝕄) := by
    rw [← bigSep_univ_prod (fun cx : Dev nD × Tr => (dutyTok ER (cell cx.1 (.r cx.2)) 0 .R : sProp 𝕄)), bigSep_univ_equiv tgtE, bigSep_univ_prod]
    rfl
  rw [bigSep_sep', bigSep_sep', bigSep_sep', bigSep_sep', bigSep_sep', bigSep_sep', bigSep_sep', bigSep_sep', bigSep_sep', bigSep_sep', hr,
    bigSep_univ_equiv (nbE .L) (fun c : Dev nD => (dutyTok ER (cell c .bar) 0 .R : sProp 𝕄)),
    bigSep_univ_equiv (nbE .R) (fun c : Dev nD => (dutyTok ER (cell c .bar) 0 .L : sProp 𝕄)),
    bigSep_univ_equiv (nbE .D) (fun c : Dev nD => (dutyTok ER (cell c .bar) 0 .U : sProp 𝕄)),
    bigSep_univ_equiv (nbE .U) (fun c : Dev nD => (dutyTok ER (cell c .bar) 0 .D : sProp 𝕄))]
  exact Entails.of_eq rfl

/-! ## The launch element -/

def u₀ : UU :=
  (initOf (Pipeline.cells cfgs cellOf_inj) (Pipeline.launchToks cfgs cellOf_inj), initOf cells toks₀)

/-- What it deals a device. -/
def G (c : Dev nD) : sProp 𝕄 :=
  iprop((bigSep Finset.univ fun k => roundState ER (sch I) (cell c k) 0)
    ∗ ((bigSep Finset.univ fun k => atPos ER (cell c k) 0 ∅ 0) ∗ (bigSep Finset.univ fun k => reached ER (cell c k) 0)) ∗ toks c)

theorem fund_cells : BI.own (ER (initOf cells toks₀)) ⊢ (|==> bigSep Finset.univ (G I) : sProp 𝕄) := by
  have hX (Φ : GSem nD τ sig → sProp 𝕄) : bigSep cells Φ = bigSep Finset.univ fun c : Dev nD => bigSep Finset.univ fun k => Φ (cell c k) := by
    unfold cells; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]
    refine bigSep_congr fun c _ => ?_
    unfold toks
    rw [bigSep_univ_sum, bigSep_univ_sum, bigSep_dir]; rfl
  iintro HX
  imod (Rounds.fund ER (sch I) cells toks₀) $$ HX with ⟨Hst, Hr, Hat, Htok⟩
  imodintro
  ihave Hst' := (Entails.of_eq (hX fun g => roundState ER (sch I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat' Hr']
  · isplitl [Hat'] <;> iassumption
  iexact Htok'

/-! ## The deal -/

/-- What stays with a device: its positions, and the tokens of the duties it pays. -/
def linear (c : Dev nD) : sProp 𝕄 := iprop((bigSep Finset.univ fun k => atPos ER (cell c k) 0 ∅ 0) ∗ payToks c)
def G' (c : Dev nD) : sProp 𝕄 := iprop(∃ K, records I K ∗ linear c)

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (sch I) κ (cell c k)))
          ∗ ((bigSep Finset.univ fun k => atPos ER (cell c k) 0 ∅ 0) ∗ (bigSep Finset.univ fun k => reached ER (cell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k => semVal (cell c k) 0) ∗ bigSep Finset.univ fun k => roundState ER (sch I) (cell c k) 0)
      ⊢ (|={Set.univ}=> bigSep Finset.univ fun k => iprop(∃ κ : ℕ, cellInv ER (sch I) κ (cell c k)) : sProp 𝕄) from by
        rw [← bigSep_sep']
        exact (bigSep_mono fun k _ => (Rounds.body_intro ER (sch I) (cell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sch I) κ (cell c k)))
          ∗ ((bigSep Finset.univ fun k => atPos ER (cell c k) 0 ∅ 0) ∗ (bigSep Finset.univ fun k => reached ER (cell c k) 0)) ∗ toks c) : sProp 𝕄)
      ⊢ bigSep Finset.univ (G' I) := by
  rw [bigSep_sep', bigSep_sep', bigSep_sep', ← bigSep_univ_prod (fun ck : Dev nD × Cl => iprop(∃ κ : ℕ, cellInv ER (sch I) κ (cell ck.1 ck.2))),
    ← bigSep_univ_prod (fun ck : Dev nD × Cl => (reached ER (cell ck.1 ck.2) 0 : sProp 𝕄))]
  iintro ⟨HI, ⟨Hat, #HR⟩, Htok⟩
  ihave HK := (BI.bigSep_exists_pi Finset.univ (fun (ck : Dev nD × Cl) (κ : ℕ) => (cellInv ER (sch I) κ (cell ck.1 ck.2) : sProp 𝕄))) $$ HI
  icases HK with ⟨%K, #HI⟩
  ihave Htk := (toks_around (F := F)) $$ Htok
  iapply (bigSep_with (R := records I K) (Φ := linear) (Ψ := G' I) fun c _ => by unfold G'; iintro H; iexists K; iexact H)
  isplitr
  · unfold records; isplitl; · iexact HI
    iexact HR
  · unfold linear
    rw [bigSep_sep']
    isplitl [Hat]; · iexact Hat
    iexact Htk

/-- The whole step, for all devices at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

/-- What a device owes at the start. -/
def O₀ (c : Dev nD) : CellTallies nD τ sig Unit := owed false (fun _ => .no) c

omit [FloatOps F] in
theorem cell_iff {c c' : Dev nD} {k k' : Cl} : cell c k = cell c' k' ↔ c = c' ∧ k = k' :=
  ⟨fun h => by have := cell_inj (a₁ := (c, k)) (a₂ := (c', k')) h; exact Prod.mk.inj this, fun h => by rw [h.1, h.2]⟩

omit [FloatOps F] in
theorem pend_no : pend (fun _ => Ph.no) = Finset.univ := by
  unfold pend; exact Finset.filter_true_of_mem fun _ _ => Or.inr rfl

omit [FloatOps F] in
theorem owedT_at (d c : Dev nD) (k : Cl) :
    owedT (fun _ => .no) d (cell c k) () = ∑ x : Tr, if d = x.frm c ∧ k = .r x then x.N else 0 := by
  unfold owedT owe
  rw [pend_no, Finset.sum_apply, Finsupp.finset_sum_apply]
  refine Finset.sum_congr rfl fun x _ => ?_
  rw [tallyAt_apply]
  refine if_congr ?_ rfl rfl
  rw [cell_iff]
  constructor
  · rintro ⟨⟨h1, h2⟩, -⟩; exact ⟨by rw [h1, x.frm_tgt], h2⟩
  · rintro ⟨h1, h2⟩; exact ⟨⟨by rw [h1, x.tgt_frm], h2⟩, rfl⟩

omit [FloatOps F] in
theorem oweB_at (d c : Dev nD) (e : Dir) (k : Cl) : oweB d e (cell c k) () = if d = e.op.nb c ∧ k = .bar then 1 else 0 := by
  unfold oweB
  rw [tallyAt_apply]
  refine if_congr ?_ rfl rfl
  rw [cell_iff]
  constructor
  · rintro ⟨⟨h1, h2⟩, -⟩; exact ⟨by rw [h1, e.op_nb], h2⟩
  · rintro ⟨h1, h2⟩; exact ⟨⟨by rw [h1, e.nb_op], h2⟩, rfl⟩

omit [FloatOps F] in
theorem O₀_at (d c : Dev nD) (k : Cl) : O₀ d (cell c k) () = (∑ x : Tr, if d = x.frm c ∧ k = .r x then x.N else 0)
    + ((if d = Dir.D.nb c ∧ k = .bar then 1 else 0) + (if d = Dir.U.nb c ∧ k = .bar then 1 else 0)
      + (if d = Dir.L.nb c ∧ k = .bar then 1 else 0) + (if d = Dir.R.nb c ∧ k = .bar then 1 else 0)) := by
  unfold O₀ owed owedB
  rw [if_neg (by decide), Pi.add_apply, Finsupp.add_apply, Pi.add_apply, Finsupp.add_apply, Pi.add_apply, Finsupp.add_apply, Pi.add_apply, Finsupp.add_apply,
    owedT_at, oweB_at, oweB_at, oweB_at, oweB_at]
  rfl

omit [FloatOps F] in
theorem launch_at (c : Dev nD) (k : Cl) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

omit [FloatOps F] in
theorem launch_bar (c : Dev nD) : ∑ d : Dev nD, O₀ d (cell c .bar) () = 4 := by
  rw [Finset.sum_congr rfl fun d _ => O₀_at d c .bar]
  simp only [Finset.sum_add_distrib, and_true, reduceCtorEq, and_false, if_false, Finset.sum_const_zero, Finset.sum_ite_eq', Finset.sum_ite_eq,
    Finset.mem_univ, if_true, zero_add, Nat.reduceAdd]
omit [FloatOps F] in
theorem launch_r (c : Dev nD) (x : Tr) : ∑ d : Dev nD, O₀ d (cell c (.r x)) () = x.N := by
  rw [Finset.sum_congr rfl fun d _ => O₀_at d c (.r x)]
  simp only [Finset.sum_add_distrib, reduceCtorEq, and_false, if_false, Finset.sum_const_zero, add_zero]
  rw [Finset.sum_comm, Finset.sum_eq_single x]
  · simp
  · intro y _ hy
    refine Finset.sum_eq_zero fun d _ => if_neg fun h => hy ?_
    have := h.2; cases this; rfl
  · intro h; exact absurd (Finset.mem_univ _) h

/-- The cells a device waits at for others' units. -/
def inSem : Unit ⊕ Tr → SemLoc sig := Sum.elim (fun _ => csem .bar) (fun x => csem (.r x))
theorem inSem_inj : Function.Injective inSem := by
  rintro (_ | x) (_ | y) h
  · rfl
  · exact nomatch (csem_inj (show csem .bar = csem (.r y) from h))
  · exact nomatch (csem_inj (show csem (.r x) = csem .bar from h))
  · have := csem_inj (show csem (.r x) = csem (.r y) from h); cases this; rfl

omit [FloatOps F] in
theorem creds (c : Dev nD) : (Pipeline.launchCred O₀ c : sProp 𝕄)
    ⊢ iprop(cred (tallyAt (cell c .bar) () 4) ∗ bigSep Finset.univ fun x : Tr => cred (tallyAt (cell c (.r x)) () x.N)) := by
  have hU (Ψ : Unit → sProp 𝕄) : bigSep Finset.univ Ψ = Ψ () := bigSep_singleton
  unfold Pipeline.launchCred
  refine (show _ ⊢ _ from bigSep_subset (t := Finset.univ.map ⟨inSem, inSem_inj⟩) (Finset.subset_univ _)).trans (Entails.of_eq ?_)
  rw [bigSep_map, bigSep_univ_sum, hU]
  refine congrArg₂ (fun P Q : sProp 𝕄 => iprop(P ∗ Q)) (congrArg cred (launch_at c .bar 4 (launch_bar c)))
    (bigSep_congr fun x _ => congrArg cred (launch_at c (.r x) x.N (launch_r c x)))

end Cert.Proof

end
-- ==== Proof.Stages.lean ====
/-
  The four stages: what a device holds before and after each.
-/
module

public import proofs.«01_k».proof.Proof.Steps

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : In F} {c : Dev nD} {b : Bool} {σ : Tr → Ph} {ω : Sl → Ss} {O : OB F}

/-! ## Putting steps together -/

theorem W_mono {α : Type} {p : PB F α} {P : sProp 𝕄} {R Q : α → sProp 𝕄} (h1 : P ⊢ W c p R) (h2 : ∀ a, R a ⊢ Q a) : P ⊢ W c p Q :=
  h1.trans (wp_mono _ _ _ h2)

/-- A step that returns a value of which something is known, then the rest. -/
theorem W_bindp {α β : Type} {p : PB F α} {k : α → PB F β} {φ : α → Prop} {P R : sProp 𝕄} {Q : β → sProp 𝕄}
    (h1 : P ⊢ W c p fun a => iprop(⌜φ a⌝ ∗ R)) (h2 : ∀ a, φ a → R ⊢ W c (k a) Q) : P ⊢ W c (p >>= k) Q :=
  W_bind h1 fun a => by
    iintro ⟨%h, H⟩
    iapply (h2 a h); iexact H

theorem Inv_cast {σ' : Tr → Ph} {ω' : Sl → Ss} {O' : OB F} (h1 : σ = σ') (h2 : ω = ω') (h3 : O = O') : Inv I c b σ ω O ⊢ Inv I c b σ' ω' O' := by
  subst h1 h2 h3; exact Entails.refl _

/-! ## The composed steps -/

theorem fill_ok {n r : ℕ} [NeZero r] [NeZero n] (M : Memref sig .tc .vmem (St n r) .bf16) (hM : M.IsWhole) (p : Place r) (k : Sl)
    (hk : (free k c : sProp 𝕄) = iprop(∃ X, owns (c : Thread nD τ) (slot M 0) fullShare X))
    (hk' : full I k c = owns (c : Thread nD τ) (slot M 0) fullShare (rnd (get O p))) (hω : ω k = .fr) :
    Inv I c b σ ω O ⊢ W c (fill M hM p) fun _ => Inv I c b σ (Function.update ω k .fu) O := by
  unfold fill
  refine W_bindp (ldO_ok p) fun v hv => ?_
  refine W_bind (ldS_free M 0 k hk hω) fun _ => ?_
  exact stS_ok M hM 0 k _ hk (by rw [down_eq, same_eq, hv]; exact hk') hω

theorem redStep_ok {n k r : ℕ} [NeZero r] (x : Tr) (R : Memref sig .tc .vmem (St k r) .bf16) (i : Fin k)
    (M : Memref sig .tc .vmem (St n r) .bf16) (hM : M.IsWhole) (j : Fin n) (p : Place r) (kM : Sl) (X : Vec F (Bk r) .bf16)
    (hR : full I x.dstS c = owns (c : Thread nD τ) (slot R i) fullShare X)
    (hk : (free kM c : sProp 𝕄) = iprop(∃ X, owns (c : Thread nD τ) (slot M j) fullShare X))
    (hk' : full I kM c = owns (c : Thread nD τ) (slot M j) fullShare (rnd (sum (get O p) X)))
    (hσ : σ x = .fly) (hω : ω x.dstS = .aw) (hord : ∀ y, σ y = .rdy ∨ σ y = .no → x.ord < y.ord)
    (hM' : Function.update ω x.dstS .fu kM = .fr) :
    Inv I c true σ ω O ⊢ W c (redStep x R i M hM j p) fun u => iprop(⌜u = sum (get O p) X⌝
      ∗ Inv I c true (Function.update σ x .got) (Function.update (Function.update ω x.dstS .fu) kM .fu) O) := by
  unfold redStep
  refine W_bind (waitR_ok x hσ hω hord) fun _ => ?_
  refine W_bindp (ldO_ok p) fun v hv => ?_
  refine W_bindp (ldS_full R i x.dstS X hR (Function.update_self ..)) fun w hw => ?_
  refine W_bind (ldS_free M j kM hk hM') fun _ => ?_
  have e : plus v w = sum (get O p) X := by rw [plus_eq, hw, hv]
  refine W_bind (stS_ok M hM j kM _ hk (by rw [down_eq, e]; exact hk') hM') fun _ => ?_
  refine BIBase.Entails.trans ?_ (W_pure _ _)
  iintro H
  isplitr; · ipureintro; exact e
  iexact H

theorem putO_ok {r : ℕ} [NeZero r] (p : Place r) (w : Vec F (Bk r) .f32) :
    Inv I c b σ ω O ⊢ W c (putO p w) fun _ => Inv I c b σ ω (put O p w) := by
  unfold putO
  exact W_bindp (ldO_ok p) fun _ _ => stO_ok p w

theorem gatStep_ok {k r : ℕ} [NeZero r] (x : Tr) (R : Memref sig .tc .vmem (St k r) .bf16) (i : Fin k) (p : Place r) (X : Vec F (Bk r) .bf16)
    (hR : full I x.dstS c = owns (c : Thread nD τ) (slot R i) fullShare X)
    (hσ : σ x = .fly) (hω : ω x.dstS = .aw) (hord : ∀ y, σ y = .rdy ∨ σ y = .no → x.ord < y.ord) :
    Inv I c true σ ω O ⊢ W c (gatStep x R i p) fun _ => Inv I c true (Function.update σ x .got) (Function.update ω x.dstS .fu) (put O p (wid X)) := by
  unfold gatStep
  refine W_bind (waitR_ok x hσ hω hord) fun _ => ?_
  refine W_bindp (ldS_full R i x.dstS X hR (Function.update_self ..)) fun w hw => ?_
  rw [wide_eq, hw]
  exact putO_ok p _

/-! ## The state by counters -/

/-- How many steps of each stage have landed (`ga`, …) and been read out (`da`, …); whether the first blocks of stages `b` and `d` are there. -/
structure Cnt where
  ga : ℕ
  da : ℕ
  pb : Bool
  gb : ℕ
  db : ℕ
  gz : ℕ
  dz : ℕ
  pd : Bool
  gd : ℕ
  dd : ℕ

def ph (g d i : ℕ) : Ph := if i < d then .don else if i < g then .got else .rdy

def Cnt.ts (t : Cnt) : Tr → Ph
  | .a _ i => ph t.ga t.da i.val
  | .b _ i => ph t.gb t.db i.val
  | .z _ i => ph t.gz t.dz i.val
  | .d _ i => ph t.gd t.dd i.val

/-- A landing slot whose block is sent on at the next step. -/
def fwd (g d i : ℕ) : Ss := if i < g then (if i + 1 < g ∧ ¬ i + 1 < d then .aw else .fu) else .aw

def Cnt.ss (t : Cnt) : Sl → Ss
  | .s1 _ i => if i.val < t.da then .fu else if i.val < t.ga then .aw else if i.val = t.ga then .fu else .fr
  | .l1 _ i => if i.val < t.ga then .fu else .aw
  | .s2 _ i =>
    if i.val = 3 then (if t.gb < 3 then .fr else if t.gz = 0 then .fu else if t.dz = 0 then .aw else .fu)
    else if i.val < t.db then .fu else if i.val < t.gb then .aw else if i.val = t.gb ∧ t.pb then .fu else .fr
  | .l2 _ i => if i.val < t.gb then .fu else .aw
  | .l3 _ i => fwd t.gz t.dz i.val
  | .s4 _ => if t.pd then (if t.gd = 0 then .fu else if t.dd = 0 then .aw else .fu) else .fr
  | .l4 _ i => fwd t.gd t.dd i.val

/-- Device `c` holds what the counters say, with the result at `O`. -/
abbrev At (I : In F) (c : Dev nD) (t : Cnt) (O : OB F) : sProp 𝕄 := Inv I c true t.ts t.ss O

/-! ## Stage `a` -/

def tA (s d : ℕ) : Cnt := ⟨s, d, false, 0, 0, 0, 0, false, 0, 0⟩

theorem stageA_waits : At I c (tA 7 0) O ⊢ W c (loop 7 fun s => do
    waitS (.a false s)
    waitS (.a true s)) fun _ => At I c (tA 7 7) O := by
  refine W_loop 7 _ (fun s => At I c (tA 7 s) O) fun s => ?_
  refine W_bind (waitS_ok (.a false s) (by revert s; decide +kernel) (by revert s; decide +kernel)) fun _ => ?_
  refine W_mono (waitS_ok (.a true s) (by revert s; decide +kernel) (by revert s; decide +kernel)) fun _ => ?_
  exact Inv_cast (by revert s; decide +kernel) (by revert s; decide +kernel) rfl

theorem stageA_step (s : Fin 6) : At I c (tA s.val 0) (I.O0 c) ⊢ W c (do
    snd (.a false s.castSucc) c
    snd (.a true s.castSucc) c
    let _ ← redStep (.a false s.castSucc) (r1 false) s.castSucc (ss1 false) (ss1_whole false) s.castSucc.succ (pA c false s.castSucc)
    let _ ← redStep (.a true s.castSucc) (r1 true) s.castSucc (ss1 true) (ss1_whole true) s.castSucc.succ (pA c true s.castSucc))
    fun _ => At I c (tA (s.val + 1) 0) (I.O0 c) := by
  refine W_bind (snd_ok (.a false s.castSucc) (by revert s; decide +kernel) (by revert s; decide +kernel)) fun _ => ?_
  refine W_bind (snd_ok (.a true s.castSucc) (by revert s; decide +kernel) (by revert s; decide +kernel)) fun _ => ?_
  refine W_bindp (redStep_ok (.a false s.castSucc) (r1 false) s.castSucc (ss1 false) (ss1_whole false) s.castSucc.succ (pA c false s.castSucc)
    (.s1 false s.castSucc.succ) (I.XA false s.val ((dR false).op.nb c)) rfl rfl
    (congrArg (owns (c : Thread nD τ) (slot (ss1 false) s.castSucc.succ) fullShare) (I.XA_succ false s.castSucc c))
    (by revert s; decide +kernel) (by revert s; decide +kernel) (by revert s; decide +kernel) (by revert s; decide +kernel)) fun _ h_ => ?_
  clear h_
  refine W_bindp (redStep_ok (.a true s.castSucc) (r1 true) s.castSucc (ss1 true) (ss1_whole true) s.castSucc.succ (pA c true s.castSucc)
    (.s1 true s.castSucc.succ) (I.XA true s.val ((dR true).op.nb c)) rfl rfl
    (congrArg (owns (c : Thread nD τ) (slot (ss1 true) s.castSucc.succ) fullShare) (I.XA_succ true s.castSucc c))
    (by revert s; decide +kernel) (by revert s; decide +kernel) (by revert s; decide +kernel) (by revert s; decide +kernel)) fun _ h_ => ?_
  clear h_
  refine BIBase.Entails.trans ?_ (W_pure _ _)
  exact Inv_cast (by revert s; decide +kernel) (by revert s; decide +kernel) rfl

set_option maxHeartbeats 2000000 in
theorem stageA_last : At I c (tA 6 0) (I.O0 c) ⊢ W c (do
    snd (.a false 6) c
    snd (.a true 6) c
    let u ← redStep (.a false 6) (r1 false) 6 (ss1 false) (ss1_whole false) 7 (pA c false 6)
    putO (pA c false 6) u
    let u ← redStep (.a true 6) (r1 true) 6 (ss1 true) (ss1_whole true) 7 (pA c true 6)
    putO (pA c true 6) u)
    fun _ => At I c (tA 7 0) (I.O1 c) := by
  refine W_bind (snd_ok (.a false 6) (by decide +kernel) (by decide +kernel)) fun _ => ?_
  refine W_bind (snd_ok (.a true 6) (by decide +kernel) (by decide +kernel)) fun _ => ?_
  refine W_bindp (redStep_ok (.a false 6) (r1 false) 6 (ss1 false) (ss1_whole false) 7 (pA c false 6)
    (.s1 false 7) (I.XA false 6 ((dR false).op.nb c)) rfl rfl
    (congrArg (owns (c : Thread nD τ) (slot (ss1 false) 7) fullShare) (I.XA_succ false 6 c))
    (by decide +kernel) (by decide +kernel) (by decide +kernel) (by decide +kernel)) fun u hu => ?_
  subst hu
  refine W_bind (putO_ok (pA c false 6) _) fun _ => ?_
  have e : (sum (get (put (I.O0 c) (pA c false 6) (sum (get (I.O0 c) (pA c false 6)) (I.XA false 6 ((dR false).op.nb c)))) (pA c true 6))
      (I.XA true 6 ((dR true).op.nb c))) = I.SA true 6 c := congrArg (fun v => sum v _) (I.get_O1' c)
  refine W_bindp (redStep_ok (.a true 6) (r1 true) 6 (ss1 true) (ss1_whole true) 7 (pA c true 6)
    (.s1 true 7) (I.XA true 6 ((dR true).op.nb c)) rfl rfl
    (congrArg (owns (c : Thread nD τ) (slot (ss1 true) 7) fullShare) ((I.XA_succ true 6 c).trans (congrArg rnd e.symm)))
    (by decide +kernel) (by decide +kernel) (by decide +kernel) (by decide +kernel)) fun u hu => ?_
  subst hu
  refine W_mono (putO_ok (pA c true 6) _) fun _ => ?_
  exact Inv_cast (by decide +kernel) (by decide +kernel) (congrArg (put _ _) e)

theorem stageA_ok : At I c (tA 0 0) (I.O0 c) ⊢ W c (stageA c) fun _ => At I c (tA 7 7) (I.O1 c) := by
  unfold stageA
  refine W_bind (W_loop 6 _ (fun s => At I c (tA s 0) (I.O0 c)) fun s => stageA_step s) fun _ => ?_
  have h := W_bind (stageA_last (I := I) (c := c)) fun _ => stageA_waits (O := I.O1 c)
  simp only [bind_assoc] at h
  exact h

/-! ## Stage `b` -/

def tB (s d : ℕ) : Cnt := ⟨7, 7, true, s, d, 0, 0, false, 0, 0⟩

theorem stageB_waits : At I c (tB 3 0) O ⊢ W c (loop 3 fun s => do
    waitS (.b false s)
    waitS (.b true s)) fun _ => At I c (tB 3 3) O := by
  refine W_loop 3 _ (fun s => At I c (tB 3 s) O) fun s => ?_
  refine W_bind (waitS_ok (.b false s) (by revert s; decide +kernel) (by revert s; decide +kernel)) fun _ => ?_
  refine W_mono (waitS_ok (.b true s) (by revert s; decide +kernel) (by revert s; decide +kernel)) fun _ => ?_
  exact Inv_cast (by revert s; decide +kernel) (by revert s; decide +kernel) rfl

theorem stageB_step (s : Fin 2) : At I c (tB s.val 0) (I.O1 c) ⊢ W c (do
    snd (.b false s.castSucc) c
    snd (.b true s.castSucc) c
    let _ ← redStep (.b false s.castSucc) (r2 false) s.castSucc (ss2 false) (ss2_whole false) s.castSucc.succ (pB c false s.castSucc)
    let _ ← redStep (.b true s.castSucc) (r2 true) s.castSucc (ss2 true) (ss2_whole true) s.castSucc.succ (pB c true s.castSucc))
    fun _ => At I c (tB (s.val + 1) 0) (I.O1 c) := by
  refine W_bind (snd_ok (.b false s.castSucc) (by revert s; decide +kernel) (by revert s; decide +kernel)) fun _ => ?_
  refine W_bind (snd_ok (.b true s.castSucc) (by revert s; decide +kernel) (by revert s; decide +kernel)) fun _ => ?_
  refine W_bindp (redStep_ok (.b false s.castSucc) (r2 false) s.castSucc (ss2 false) (ss2_whole false) s.castSucc.succ (pB c false s.castSucc)
    (.s2 false s.castSucc.succ) (I.XB false s.val ((dU false).op.nb c)) rfl rfl
    (congrArg (owns (c : Thread nD τ) (slot (ss2 false) s.castSucc.succ) fullShare) (I.XB_succ false s.castSucc c))
    (by revert s; decide +kernel) (by revert s; decide +kernel) (by revert s; decide +kernel) (by revert s; decide +kernel)) fun _ h_ => ?_
  clear h_
  refine W_bindp (redStep_ok (.b true s.castSucc) (r2 true) s.castSucc (ss2 true) (ss2_whole true) s.castSucc.succ (pB c true s.castSucc)
    (.s2 true s.castSucc.succ) (I.XB true s.val ((dU true).op.nb c)) rfl rfl
    (congrArg (owns (c : Thread nD τ) (slot (ss2 true) s.castSucc.succ) fullShare) (I.XB_succ true s.castSucc c))
    (by revert s; decide +kernel) (by revert s; decide +kernel) (by revert s; decide +kernel) (by revert s; decide +kernel)) fun _ h_ => ?_
  clear h_
  refine BIBase.Entails.trans ?_ (W_pure _ _)
  exact Inv_cast (by revert s; decide +kernel) (by revert s; decide +kernel) rfl

set_option maxHeartbeats 2000000 in
theorem stageB_last : At I c (tB 2 0) (I.O1 c) ⊢ W c (do
    snd (.b false 2) c
    snd (.b true 2) c
    let u ← redStep (.b false 2) (r2 false) 2 (ss2 false) (ss2_whole false) 3 (pB c false 2)
    putO (pB c false 2) u
    let u ← redStep (.b true 2) (r2 true) 2 (ss2 true) (ss2_whole true) 3 (pB c true 2)
    putO (pB c true 2) u)
    fun _ => At I c (tB 3 0) (I.O2 c) := by
  refine W_bind (snd_ok (.b false 2) (by decide +kernel) (by decide +kernel)) fun _ => ?_
  refine W_bind (snd_ok (.b true 2) (by decide +kernel) (by decide +kernel)) fun _ => ?_
  refine W_bindp (redStep_ok (.b false 2) (r2 false) 2 (ss2 false) (ss2_whole false) 3 (pB c false 2)
    (.s2 false 3) (I.XB false 2 ((dU false).op.nb c)) rfl rfl
    (congrArg (owns (c : Thread nD τ) (slot (ss2 false) 3) fullShare) (I.XB_succ false 2 c))
    (by decide +kernel) (by decide +kernel) (by decide +kernel) (by decide +kernel)) fun u hu => ?_
  subst hu
  refine W_bind (putO_ok (pB c false 2) _) fun _ => ?_
  have e : (sum (get (put (I.O1 c) (pB c false 2) (sum (get (I.O1 c) (pB c false 2)) (I.XB false 2 ((dU false).op.nb c)))) (pB c true 2))
      (I.XB true 2 ((dU true).op.nb c))) = I.SB true 2 c := congrArg (fun v => sum v _) (I.get_O2' c)
  refine W_bindp (redStep_ok (.b true 2) (r2 true) 2 (ss2 true) (ss2_whole true) 3 (pB c true 2)
    (.s2 true 3) (I.XB true 2 ((dU true).op.nb c)) rfl rfl
    (congrArg (owns (c : Thread nD τ) (slot (ss2 true) 3) fullShare) ((I.XB_succ true 2 c).trans (congrArg rnd e.symm)))
    (by decide +kernel) (by decide +kernel) (by decide +kernel) (by decide +kernel)) fun u hu => ?_
  subst hu
  refine W_mono (putO_ok (pB c true 2) _) fun _ => ?_
  exact Inv_cast (by decide +kernel) (by decide +kernel) (congrArg (put _ _) e)

theorem stageB_ok : At I c (tB 0 0) (I.O1 c) ⊢ W c (stageB c) fun _ => At I c (tB 3 3) (I.O2 c) := by
  unfold stageB
  refine W_bind (W_loop 2 _ (fun s => At I c (tB s 0) (I.O1 c)) fun s => stageB_step s) fun _ => ?_
  have h := W_bind (stageB_last (I := I) (c := c)) fun _ => stageB_waits (O := I.O2 c)
  simp only [bind_assoc] at h
  exact h

/-! ## Stage `z` -/

def tZ (s d : ℕ) : Cnt := ⟨7, 7, true, 3, 3, s, d, false, 0, 0⟩

theorem stageZ_waits : At I c (tZ 3 0) O ⊢ W c (loop 3 fun s => do
    waitS (.z false s)
    waitS (.z true s)) fun _ => At I c (tZ 3 3) O := by
  refine W_loop 3 _ (fun s => At I c (tZ 3 s) O) fun s => ?_
  refine W_bind (waitS_ok (.z false s) (by revert s; decide +kernel) (by revert s; decide +kernel)) fun _ => ?_
  refine W_mono (waitS_ok (.z true s) (by revert s; decide +kernel) (by revert s; decide +kernel)) fun _ => ?_
  exact Inv_cast (by revert s; decide +kernel) (by revert s; decide +kernel) rfl

theorem stageZ_step (s : Fin 3) : At I c (tZ s.val 0) (I.OZ s.val c) ⊢ W c (do
    snd (.z false s) c
    snd (.z true s) c
    gatStep (.z false s) (a2 false) s (pZ c false s)
    gatStep (.z true s) (a2 true) s (pZ c true s))
    fun _ => At I c (tZ (s.val + 1) 0) (I.OZ (s.val + 1) c) := by
  refine W_bind (snd_ok (.z false s) (by revert s; decide +kernel) (by revert s; decide +kernel)) fun _ => ?_
  refine W_bind (snd_ok (.z true s) (by revert s; decide +kernel) (by revert s; decide +kernel)) fun _ => ?_
  refine W_bind (gatStep_ok (.z false s) (a2 false) s (pZ c false s) (I.XZ false (s.val + 1) c) rfl (by revert s; decide +kernel) (by revert s; decide +kernel) (by revert s; decide +kernel)) fun _ => ?_
  refine W_mono (gatStep_ok (.z true s) (a2 true) s (pZ c true s) (I.XZ true (s.val + 1) c) rfl (by revert s; decide +kernel) (by revert s; decide +kernel) (by revert s; decide +kernel)) fun _ => ?_
  exact Inv_cast (by revert s; decide +kernel) (by revert s; decide +kernel) (I.OZ_succ s c).symm

theorem stageZ_ok : At I c (tZ 0 0) (I.OZ 0 c) ⊢ W c (stageZ c) fun _ => At I c (tZ 3 3) (I.OZ 3 c) := by
  unfold stageZ
  exact W_bind (W_loop 3 _ (fun s => At I c (tZ s 0) (I.OZ s c)) fun s => stageZ_step s) fun _ => stageZ_waits

/-! ## Stage `d` -/

def tD (s d : ℕ) : Cnt := ⟨7, 7, true, 3, 3, 3, 3, true, s, d⟩

theorem stageD_waits : At I c (tD 7 0) O ⊢ W c (loop 7 fun s => do
    waitS (.d false s)
    waitS (.d true s)) fun _ => At I c (tD 7 7) O := by
  refine W_loop 7 _ (fun s => At I c (tD 7 s) O) fun s => ?_
  refine W_bind (waitS_ok (.d false s) (by revert s; decide +kernel) (by revert s; decide +kernel)) fun _ => ?_
  refine W_mono (waitS_ok (.d true s) (by revert s; decide +kernel) (by revert s; decide +kernel)) fun _ => ?_
  exact Inv_cast (by revert s; decide +kernel) (by revert s; decide +kernel) rfl

theorem stageD_step (s : Fin 7) : At I c (tD s.val 0) (I.OD s.val c) ⊢ W c (do
    snd (.d false s) c
    snd (.d true s) c
    gatStep (.d false s) (r3 false) s (pD c false s)
    gatStep (.d true s) (r3 true) s (pD c true s))
    fun _ => At I c (tD (s.val + 1) 0) (I.OD (s.val + 1) c) := by
  refine W_bind (snd_ok (.d false s) (by revert s; decide +kernel) (by revert s; decide +kernel)) fun _ => ?_
  refine W_bind (snd_ok (.d true s) (by revert s; decide +kernel) (by revert s; decide +kernel)) fun _ => ?_
  refine W_bind (gatStep_ok (.d false s) (r3 false) s (pD c false s) (I.XD false (s.val + 1) c) rfl (by revert s; decide +kernel) (by revert s; decide +kernel) (by revert s; decide +kernel)) fun _ => ?_
  refine W_mono (gatStep_ok (.d true s) (r3 true) s (pD c true s) (I.XD true (s.val + 1) c) rfl (by revert s; decide +kernel) (by revert s; decide +kernel) (by revert s; decide +kernel)) fun _ => ?_
  exact Inv_cast (by revert s; decide +kernel) (by revert s; decide +kernel) (I.OD_succ s c).symm

theorem stageD_ok : At I c (tD 0 0) (I.OD 0 c) ⊢ W c (stageD c) fun _ => At I c (tD 7 7) (I.OD 7 c) := by
  unfold stageD
  exact W_bind (W_loop 7 _ (fun s => At I c (tD s 0) (I.OD s c)) fun s => stageD_step s) fun _ => stageD_waits

/-- The rectangle that is all of a block. -/
abbrev allR : Rect (Bk 256) := Rect.unit (s := S256x1024) ![0, 0] S256x1024.size inb_S256x1024_S256x1024_0_0

omit [FloatOps F] in
theorem s3_put (h : Bool) (f : BufTy.Contents (Elt F) (s3 h).view.ty) (w : Vec F (Bk 256) .bf16) :
    (s3 h).view.read (Elt F) (((s3 h).access allR).write (Elt F) f w Finset.univ) = w := by
  cases h
  · exact Memref.write_access_unit_zero_univ (Elt F) cc0_scratch10 (off := ![0, 0]) (by decide) inb_S256x1024_S256x1024_0_0 f w
  · exact Memref.write_access_unit_zero_univ (Elt F) cc0_scratch11 (off := ![0, 0]) (by decide) inb_S256x1024_S256x1024_0_0 f w

theorem fillD_ok (h : Bool) (hω : ω (.s4 h) = .fr) (hO : O = I.OZ 3 c) :
    Inv I c b σ ω O ⊢ W c (fillD c h) fun _ => Inv I c b σ (Function.update ω (.s4 h) .fu) O := by
  unfold fillD
  refine W_bindp (ldO_ok (pD0 c h)) fun v hv => ?_
  unfold Inv W Prog.lift
  simp only [Prog.bind_op, Prog.bind_ret]
  iintro ⟨%K, %Wt, #He, HO, HB, HT, HS, Hout⟩
  ihave HS := (bigSep_univ_turn (fun k p => sRes I c k p) ω (.s4 h)) $$ HS
  icases HS with ⟨Hs, HS⟩
  ihave Hs := (Entails.of_eq (show sRes I c (.s4 h) (ω (.s4 h)) = iprop(∃ X f, ⌜(s3 h).view.read (Elt F) f = X⌝
      ∗ ((s3 h).view.loc (c : Thread nD τ) ↦[(s3 h).view.set]{fullShare} f)) from by rw [hω]; rfl)) $$ Hs
  icases Hs with ⟨%X, %f, -, Hs⟩
  iapply (wp_load_rect 𝒱₀ (c : Thread nD τ) none Set.univ (m := s3 h) (r := allR) (S := (s3 h).view.set) (f := f)
    (View.set_slice_subset _ _)) $$ Hs
  iintro Hs
  iapply (wp_store 𝒱₀ (c : Thread nD τ) none Set.univ (m := s3 h) (r := allR) (Mk := Finset.univ) (S := (s3 h).view.set) (f := f)
    ((View.setOn_subset_set _ _).trans (View.set_slice_subset _ _))) $$ Hs
  iintro Hs
  rw [wp_ret]; imodintro
  iexists K, Wt
  isplitr; · iexact He
  isplitl [HO]; · iexact HO
  isplitl [HB]; · iexact HB
  isplitl [HT]; · iexact HT
  isplitl [HS Hs]
  · iapply HS
    iapply (Entails.of_eq (show sRes I c (.s4 h) .fu = iprop(∃ f, ⌜(s3 h).view.read (Elt F) f = I.XD h 0 c⌝
      ∗ ((s3 h).view.loc (c : Thread nD τ) ↦[(s3 h).view.set]{fullShare} f)) from rfl).symm)
    iexists (((s3 h).access allR).write (Elt F) f (k0_pay42 v) Finset.univ); isplitr
    · ipureintro
      rw [s3_put, hv, pay42_eq, hO]; rfl
    iexact Hs
  iexact Hout

end Cert.Proof

end
-- ==== Proof.Body.lean ====
/-
  The whole program on one device.
-/
module

public import proofs.«01_k».proof.Proof.Bar
public import proofs.«01_k».proof.Proof.Stages

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : In F} {c : Dev nD} {b : Bool} {σ : Tr → Ph} {ω : Sl → Ss} {O : OB F}

/-- The device's blocks of `A` and of `B`, in its staging buffers. -/
def aPts (I : In F) (c : Dev nD) : sProp 𝕄 := (((c : Thread nD τ).loc cc0_stg0_0) ↦{fullShare} (I.A c : Buf (Elt F) ((c : Thread nD τ).loc cc0_stg0_0)))
def bPts (I : In F) (c : Dev nD) : sProp 𝕄 := (((c : Thread nD τ).loc cc0_stg1_0) ↦{fullShare} (I.B c : Buf (Elt F) ((c : Thread nD τ).loc cc0_stg1_0)))

theorem local0_ok : iprop(aPts I c ∗ bPts I c ∗ Inv I c b σ ω O) ⊢ W c local0 fun _ => iprop(aPts I c ∗ bPts I c ∗ Inv I c b σ ω (I.O0 c)) := by
  unfold Inv local0 W aPts bPts Prog.lift
  simp only [Prog.bind_op, Prog.bind_ret]
  iintro ⟨HA, HBb, ⟨%K, %Wt, #He, HO, HB, HT, HS, Hout⟩⟩
  iapply (wp_load 𝒱₀ (c : Thread nD τ) none Set.univ (m := Am) (Finset.subset_univ _)) $$ HA
  iintro HA
  iapply (wp_load 𝒱₀ (c : Thread nD τ) none Set.univ (m := Bm) (Finset.subset_univ _)) $$ HBb
  iintro HBb
  iapply (wp_load 𝒱₀ (c : Thread nD τ) none Set.univ (m := Om) (Finset.subset_univ _)) $$ Hout
  iintro Hout
  iapply (wp_store 𝒱₀ (c : Thread nD τ) none Set.univ (m := Om) (r := Rect.unit (s := S2048x2048) ![0, 0] S2048x2048.size inb_S2048x2048_S2048x2048_0_0) (f := O) (Mk := Finset.univ) (Finset.subset_univ _)) $$ Hout
  iintro Hout
  have eA : Am.view.readAt (Elt F) (Rect.unit (s := S2048x1024) ![0, 0] S2048x1024.size inb_S2048x1024_S2048x1024_0_0).toLoadRect (I.A c) = I.A c :=
    Memref.readAt_unit_zero (Elt F) cc0_stg0_0 (off := ![0, 0]) (by decide) inb_S2048x1024_S2048x1024_0_0 (I.A c)
  have eB : Bm.view.readAt (Elt F) (Rect.unit (s := S1024x2048) ![0, 0] S1024x2048.size inb_S1024x2048_S1024x2048_0_0).toLoadRect (I.B c) = I.B c :=
    Memref.readAt_unit_zero (Elt F) cc0_stg1_0 (off := ![0, 0]) (by decide) inb_S1024x2048_S1024x2048_0_0 (I.B c)
  have eO (w : OB F) : (Om.access (Rect.unit (s := S2048x2048) ![0, 0] S2048x2048.size inb_S2048x2048_S2048x2048_0_0)).write (Elt F) O w Finset.univ = w :=
    Memref.write_access_unit_zero_univ (Elt F) cc0_stg2_0 (off := ![0, 0]) (by decide) inb_S2048x2048_S2048x2048_0_0 O w
  rw [wp_ret]; imodintro
  isplitl [HA]; · iexact HA
  isplitl [HBb]; · iexact HBb
  iexists K, Wt
  isplitr; · iexact He
  isplitl [HO]; · iexact HO
  isplitl [HB]; · iexact HB
  isplitl [HT]; · iexact HT
  isplitl [HS]; · iexact HS
  rw [eO, eA, eB]
  iexact Hout

theorem rest_ok : Inv I c false (fun _ => .no) (fun _ => .fr) (I.O0 c) ⊢ W c (do
    fill (ss1 false) (ss1_whole false) (pA0 c false)
    fill (ss1 true) (ss1_whole true) (pA0 c true)
    barrier c
    stageA c
    fill (ss2 false) (ss2_whole false) (pB0 c false)
    fill (ss2 true) (ss2_whole true) (pB0 c true)
    stageB c
    stageZ c
    fillD c false
    fillD c true
    stageD c) fun _ => At I c (tD 7 7) (I.OD 7 c) := by
  refine W_bind (fill_ok (ss1 false) (ss1_whole false) (pA0 c false) (.s1 false 0) rfl rfl rfl) fun _ => ?_
  refine W_bind (fill_ok (ss1 true) (ss1_whole true) (pA0 c true) (.s1 true 0) rfl rfl (by decide +kernel)) fun _ => ?_
  refine W_bind (barrier_ok (by decide +kernel)) fun _ => ?_
  refine (Inv_cast (σ' := (tA 0 0).ts) (ω' := (tA 0 0).ss) (by decide +kernel) (by decide +kernel) rfl).trans ?_
  refine W_bind stageA_ok fun _ => ?_
  refine W_bind (fill_ok (ss2 false) (ss2_whole false) (pB0 c false) (.s2 false 0) rfl rfl (by decide +kernel)) fun _ => ?_
  refine W_bind (fill_ok (ss2 true) (ss2_whole true) (pB0 c true) (.s2 true 0) rfl rfl (by decide +kernel)) fun _ => ?_
  refine (Inv_cast (σ' := (tB 0 0).ts) (ω' := (tB 0 0).ss) (by decide +kernel) (by decide +kernel) rfl).trans ?_
  refine W_bind stageB_ok fun _ => ?_
  refine (Inv_cast (σ' := (tZ 0 0).ts) (ω' := (tZ 0 0).ss) (O' := I.OZ 0 c) (by decide +kernel) (by decide +kernel) rfl).trans ?_
  refine W_bind stageZ_ok fun _ => ?_
  refine W_bind (fillD_ok false (by decide +kernel) rfl) fun _ => ?_
  refine W_bind (fillD_ok true (by decide +kernel) rfl) fun _ => ?_
  refine (Inv_cast (σ' := (tD 0 0).ts) (ω' := (tD 0 0).ss) (O' := I.OD 0 c) (by decide +kernel) (by decide +kernel) rfl).trans ?_
  exact stageD_ok

/-- The whole program: the result ends at the schedule's last contents, every transfer done and every slot held. -/
theorem prog_ok : iprop(aPts I c ∗ bPts I c ∗ Inv I c false (fun _ => .no) (fun _ => .fr) O)
    ⊢ W c prog fun _ => iprop(aPts I c ∗ bPts I c ∗ Inv I c true (fun _ => .don) (fun _ => .fu) (I.OD 7 c)) := by
  unfold prog W
  simp only [Prog.lift, Prog.bind_op, Prog.bind_ret, wp_deviceId]
  refine W_bind local0_ok fun _ => ?_
  refine BIBase.Entails.trans ?_ (wp_frame_l _ _ _)
  refine sep_mono_right ?_
  refine BIBase.Entails.trans ?_ (wp_frame_l _ _ _)
  refine sep_mono_right ?_
  exact rest_ok.trans (wp_mono _ _ _ fun _ => Inv_cast (σ' := fun _ => .don) (ω' := fun _ => .fu) (by decide +kernel) (by decide +kernel) rfl)

end Cert.Proof

end
-- ==== Proof.BodyEq.lean ====
/-
  The printed body is the short program `prog`: both are unfolded to one chain of memory operations, and the two chains agree
  operation by operation.
-/
module

public import proofs.«01_k».proof.Proof.Prog

@[expose] public section

noncomputable section

namespace Cert.Proof

open Cert.KernelIdeal Cert.KernelIdeal.Gen
open Idealize.ShloMosaic Idealize.SL.Sem

variable {F : FTy → Type} [FloatOps F]

set_option maxRecDepth 65536 in
set_option maxHeartbeats 0 in
/-- The printed body, at the buffers the call gives it, is `prog`. -/
theorem body_eq :
    (cc0_body Am (Memref.isWhole_whole _) Bm (Memref.isWhole_whole _) Om (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      (Memref.whole cc0_scratch10) (Memref.isWhole_whole _) (Memref.whole cc0_scratch11) (Memref.isWhole_whole _)
      (Memref.whole cc0_scratch12) (Memref.isWhole_whole _) (Memref.whole cc0_scratch13) (Memref.isWhole_whole _)
      cc0_scratch14 cc0_scratch15 cc0_scratch16 cc0_scratch17 cc0_scratch18 cc0_scratch19 cc0_scratch20 cc0_scratch21
      cc0_scratch22 cc0_scratch23 cc0_scratch24 cc0_scratch25 cc0_scratch26 cc0_scratch27 cc0_scratch28 cc0_scratch29 :
      PB F PUnit) = prog := by
  rw [cc0_body_eq_skeleton]
  simp only [cc0_body_skel, prog, snd, waitR, waitS, ldS, stS, ldO, stO, stageA, stageB, stageZ, stageD, local0, barrier, fill, fillD, redStep, gatStep, putO, loop, bind_assoc, pure_bind,
    k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel]
  rfl

end Cert.Proof

end
-- ==== Proof.Slots.lean ====
/-
  The scratch buffers as slots: a buffer held whole is its slots, each held with anything in it, and the other way round.
-/
module

public import proofs.«01_k».proof.Proof.Steps
public import Idealize.ShloMosaic.Lib.Ring

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F]

/-- A buffer's elements held at some contents are the memref held at some value. -/
theorem held_eq (c : Dev nD) {s : Shape} (m : Memref sig .tc .vmem s .bf16) :
    (iprop(∃ f, m.view.loc (c : Thread nD τ) ↦[m.view.set]{fullShare} f) : sProp 𝕄) = iprop(∃ X, owns (c : Thread nD τ) m fullShare X) := by
  have h1 : (iprop(∃ f, m.view.loc (c : Thread nD τ) ↦[m.view.set]{fullShare} f) : sProp 𝕄) ⊢ iprop(∃ X, owns (c : Thread nD τ) m fullShare X) := by
    unfold owns
    iintro ⟨%f, H⟩
    iexists _, f
    isplitr; · ipureintro; rfl
    iexact H
  have h2 : (iprop(∃ X, owns (c : Thread nD τ) m fullShare X) : sProp 𝕄) ⊢ iprop(∃ f, m.view.loc (c : Thread nD τ) ↦[m.view.set]{fullShare} f) := by
    unfold owns
    iintro ⟨%X, %f, -, H⟩
    iexists f; iexact H
  exact equiv_iff.mp ⟨h1, h2⟩

variable {n r : ℕ} (M : Memref sig .tc .vmem (St n r) .bf16)

theorem slot_set (i : Fin n) : (slot M i).view.set = (slotR r i).set.map M.view.emb := by
  show ((M.view.slice (slotR r i)).reshape _ _).set = _
  rw [View.set_reshape, View.set_slice]

/-- A slot's elements, in its stack's buffer. -/
abbrev slotSet (c : Dev nD) (i : Fin n) : Finset (Idx (M.view.loc (c : Thread nD τ))) := (slot M i).view.set

theorem slot_disj (i j : Fin n) (h : i ≠ j) : Disjoint (slot M i).view.set (slot M j).view.set := by
  rw [slot_set, slot_set, Finset.disjoint_map]
  refine Rect.unit_disjoint 0 ?_
  have : i.val ≠ j.val := fun h' => h (Fin.ext h')
  show i.val + 1 ≤ j.val ∨ j.val + 1 ≤ i.val
  omega

theorem slotR_cover (y : (St n r).Idx) : ∃ i : Fin n, y ∈ (slotR r i).set := by
  refine ⟨⟨(y 0).val, (y 0).isLt⟩, Rect.mem_set_unit.mpr fun a => ?_⟩
  fin_cases a
  · exact ⟨le_refl _, Nat.lt_succ_self _⟩
  · exact ⟨Nat.zero_le _, by have := (y 1).isLt; show (y 1).val < 0 + r; rw [Nat.zero_add]; exact this⟩
  · exact ⟨Nat.zero_le _, by have := (y 2).isLt; show (y 2).val < 0 + 1024; rw [Nat.zero_add]; exact this⟩

theorem slot_cover (c : Dev nD) (hM : M.view.set = Finset.univ) : Finset.univ.biUnion (slotSet M c) = Finset.univ := by
  refine Eq.trans ?_ hM
  unfold slotSet
  rw [show (fun i : Fin n => (slot M i).view.set) = fun i => (slotR r i).set.map M.view.emb from funext fun i => slot_set M i]
  ext x
  rw [Finset.mem_biUnion, View.set]
  constructor
  · rintro ⟨i, -, hi⟩
    exact Finset.map_subset_map.mpr (Finset.subset_univ _) hi
  · intro hx
    obtain ⟨y, -, rfl⟩ := Finset.mem_map.mp hx
    obtain ⟨i, hi⟩ := slotR_cover y
    exact ⟨i, Finset.mem_univ _, Finset.mem_map_of_mem _ hi⟩

/-- A stack held whole is its slots. -/
theorem stack_eq (c : Dev nD) (f₀ : Buf (Elt F) (M.view.loc (c : Thread nD τ))) (hM : M.view.set = Finset.univ) :
    (iprop(∃ f, M.view.loc (c : Thread nD τ) ↦{fullShare} f) : sProp 𝕄)
      = bigSep Finset.univ fun i : Fin n => iprop(∃ X, owns (c : Thread nD τ) (slot M i) fullShare X) := by
  rw [← bigSep_congr fun i _ => held_eq (F := F) c (slot M i)]
  have h1 : (iprop(∃ f, M.view.loc (c : Thread nD τ) ↦{fullShare} f) : sProp 𝕄)
      ⊢ bigSep Finset.univ fun i : Fin n => iprop(∃ f, (slot M i).view.loc (c : Thread nD τ) ↦[(slot M i).view.set]{fullShare} f) := by
    iintro ⟨%f, H⟩
    ihave H := (Entails.of_eq (Ring.pointsTo_blocks (ℓ := M.view.loc (c : Thread nD τ)) (slotSet M c) (slot_disj M) (slot_cover M c hM) f)) $$ H
    have hx (i : Fin n) : (M.view.loc (c : Thread nD τ) ↦[slotSet M c i]{fullShare} f : sProp 𝕄)
        ⊢ iprop(∃ f, (slot M i).view.loc (c : Thread nD τ) ↦[(slot M i).view.set]{fullShare} f) := by
      iintro H; iexists f; iexact H
    iapply (show (bigSep Finset.univ fun i : Fin n => (M.view.loc (c : Thread nD τ) ↦[slotSet M c i]{fullShare} f : sProp 𝕄))
      ⊢ bigSep Finset.univ fun i : Fin n => iprop(∃ f, (slot M i).view.loc (c : Thread nD τ) ↦[(slot M i).view.set]{fullShare} f) from
        bigSep_mono fun i _ => hx i)
    iexact H
  have h2 : (bigSep Finset.univ fun i : Fin n => iprop(∃ f, (slot M i).view.loc (c : Thread nD τ) ↦[(slot M i).view.set]{fullShare} f) : sProp 𝕄)
      ⊢ iprop(∃ f, M.view.loc (c : Thread nD τ) ↦{fullShare} f) :=
    Ring.pointsTo_blocks_join_exists (ℓ := M.view.loc (c : Thread nD τ)) (slotSet M c) (slot_disj M) (slot_cover M c hM) f₀
  exact equiv_iff.mp ⟨h1, h2⟩

/-- The slots numbered stack by stack. -/
def slIn : Fin 8 ⊕ Fin 8 ⊕ Fin 7 ⊕ Fin 7 ⊕ Fin 4 ⊕ Fin 4 ⊕ Fin 3 ⊕ Fin 3 ⊕ Fin 3 ⊕ Fin 3 ⊕ Unit ⊕ Unit ⊕ Fin 7 ⊕ Fin 7 → Sl :=
  Sum.elim (.s1 false) <| Sum.elim (.s1 true) <| Sum.elim (.l1 false) <| Sum.elim (.l1 true)
  <| Sum.elim (.s2 false) <| Sum.elim (.s2 true) <| Sum.elim (.l2 false) <| Sum.elim (.l2 true)
  <| Sum.elim (.l3 false) <| Sum.elim (.l3 true) <| Sum.elim (fun _ => .s4 false) <| Sum.elim (fun _ => .s4 true)
  <| Sum.elim (.l4 false) (.l4 true)
theorem slIn_bij : Function.Bijective slIn := by
  constructor
  · decide +kernel
  · intro k
    cases k with
    | s1 h i => cases h; exacts [⟨.inl i, rfl⟩, ⟨.inr (.inl i), rfl⟩]
    | l1 h i => cases h; exacts [⟨.inr (.inr (.inl i)), rfl⟩, ⟨.inr (.inr (.inr (.inl i))), rfl⟩]
    | s2 h i => cases h; exacts [⟨.inr (.inr (.inr (.inr (.inl i)))), rfl⟩, ⟨.inr (.inr (.inr (.inr (.inr (.inl i))))), rfl⟩]
    | l2 h i => cases h; exacts [⟨.inr (.inr (.inr (.inr (.inr (.inr (.inl i)))))), rfl⟩, ⟨.inr (.inr (.inr (.inr (.inr (.inr (.inr (.inl i))))))), rfl⟩]
    | l3 h i => cases h; exacts [⟨.inr (.inr (.inr (.inr (.inr (.inr (.inr (.inr (.inl i)))))))), rfl⟩, ⟨.inr (.inr (.inr (.inr (.inr (.inr (.inr (.inr (.inr (.inl i))))))))), rfl⟩]
    | s4 h => cases h; exacts [⟨.inr (.inr (.inr (.inr (.inr (.inr (.inr (.inr (.inr (.inr (.inl ())))))))))), rfl⟩, ⟨.inr (.inr (.inr (.inr (.inr (.inr (.inr (.inr (.inr (.inr (.inr (.inl ()))))))))))), rfl⟩]
    | l4 h i => cases h; exacts [⟨.inr (.inr (.inr (.inr (.inr (.inr (.inr (.inr (.inr (.inr (.inr (.inr (.inl i)))))))))))), rfl⟩, ⟨.inr (.inr (.inr (.inr (.inr (.inr (.inr (.inr (.inr (.inr (.inr (.inr (.inr i)))))))))))), rfl⟩]

/-- The slots, stack by stack. -/
theorem bigSep_sl (Φ : Sl → sProp 𝕄) : bigSep Finset.univ Φ =
    iprop((bigSep Finset.univ fun i => Φ (.s1 false i)) ∗ (bigSep Finset.univ fun i => Φ (.s1 true i))
      ∗ (bigSep Finset.univ fun i => Φ (.l1 false i)) ∗ (bigSep Finset.univ fun i => Φ (.l1 true i))
      ∗ (bigSep Finset.univ fun i => Φ (.s2 false i)) ∗ (bigSep Finset.univ fun i => Φ (.s2 true i))
      ∗ (bigSep Finset.univ fun i => Φ (.l2 false i)) ∗ (bigSep Finset.univ fun i => Φ (.l2 true i))
      ∗ (bigSep Finset.univ fun i => Φ (.l3 false i)) ∗ (bigSep Finset.univ fun i => Φ (.l3 true i))
      ∗ Φ (.s4 false) ∗ Φ (.s4 true)
      ∗ (bigSep Finset.univ fun i => Φ (.l4 false i)) ∗ (bigSep Finset.univ fun i => Φ (.l4 true i))) := by
  have hU (Ψ : Unit → sProp 𝕄) : bigSep Finset.univ Ψ = Ψ () := bigSep_singleton
  rw [bigSep_univ_equiv (Equiv.ofBijective slIn slIn_bij) Φ]
  repeat rw [bigSep_univ_sum]
  rw [hU, hU]
  rfl

/-- One buffer, held whole at some contents. -/
def bufRes (c : Dev nD) (b : Ref sig .tc) : sProp 𝕄 := iprop(∃ f : Buf (Elt F) ((c : Thread nD τ).loc b), ((c : Thread nD τ).loc b) ↦{fullShare} f)

variable (c : Dev nD) (z : Elt F .bf16)

include z in
theorem buf0 : bufRes c cc0_scratch0 = bigSep Finset.univ fun i => (free (.s1 false i) c : sProp 𝕄) :=
  stack_eq (Memref.whole cc0_scratch0) c (fun _ => z) (View.set_whole _)
include z in
theorem buf1 : bufRes c cc0_scratch1 = bigSep Finset.univ fun i => (free (.s1 true i) c : sProp 𝕄) :=
  stack_eq (Memref.whole cc0_scratch1) c (fun _ => z) (View.set_whole _)
include z in
theorem buf2 : bufRes c cc0_scratch2 = bigSep Finset.univ fun i => (free (.l1 false i) c : sProp 𝕄) :=
  stack_eq (Memref.whole cc0_scratch2) c (fun _ => z) (View.set_whole _)
include z in
theorem buf3 : bufRes c cc0_scratch3 = bigSep Finset.univ fun i => (free (.l1 true i) c : sProp 𝕄) :=
  stack_eq (Memref.whole cc0_scratch3) c (fun _ => z) (View.set_whole _)
include z in
theorem buf4 : bufRes c cc0_scratch4 = bigSep Finset.univ fun i => (free (.s2 false i) c : sProp 𝕄) :=
  stack_eq (Memref.whole cc0_scratch4) c (fun _ => z) (View.set_whole _)
include z in
theorem buf5 : bufRes c cc0_scratch5 = bigSep Finset.univ fun i => (free (.s2 true i) c : sProp 𝕄) :=
  stack_eq (Memref.whole cc0_scratch5) c (fun _ => z) (View.set_whole _)
include z in
theorem buf6 : bufRes c cc0_scratch6 = bigSep Finset.univ fun i => (free (.l2 false i) c : sProp 𝕄) :=
  stack_eq (Memref.whole cc0_scratch6) c (fun _ => z) (View.set_whole _)
include z in
theorem buf7 : bufRes c cc0_scratch7 = bigSep Finset.univ fun i => (free (.l2 true i) c : sProp 𝕄) :=
  stack_eq (Memref.whole cc0_scratch7) c (fun _ => z) (View.set_whole _)
include z in
theorem buf8 : bufRes c cc0_scratch8 = bigSep Finset.univ fun i => (free (.l3 false i) c : sProp 𝕄) :=
  stack_eq (Memref.whole cc0_scratch8) c (fun _ => z) (View.set_whole _)
include z in
theorem buf9 : bufRes c cc0_scratch9 = bigSep Finset.univ fun i => (free (.l3 true i) c : sProp 𝕄) :=
  stack_eq (Memref.whole cc0_scratch9) c (fun _ => z) (View.set_whole _)
include z in
theorem buf12 : bufRes c cc0_scratch12 = bigSep Finset.univ fun i => (free (.l4 false i) c : sProp 𝕄) :=
  stack_eq (Memref.whole cc0_scratch12) c (fun _ => z) (View.set_whole _)
include z in
theorem buf13 : bufRes c cc0_scratch13 = bigSep Finset.univ fun i => (free (.l4 true i) c : sProp 𝕄) :=
  stack_eq (Memref.whole cc0_scratch13) c (fun _ => z) (View.set_whole _)
theorem buf10 : bufRes c cc0_scratch10 = (free (.s4 false) c : sProp 𝕄) := by
  have h : (free (.s4 false) c : sProp 𝕄) = iprop(∃ X, owns (c : Thread nD τ) (s3 false) fullShare X) := rfl
  have hs : (s3 false).view.set = Finset.univ := View.set_whole _
  rw [h, ← held_eq c (s3 false), hs]
  rfl
theorem buf11 : bufRes c cc0_scratch11 = (free (.s4 true) c : sProp 𝕄) := by
  have h : (free (.s4 true) c : sProp 𝕄) = iprop(∃ X, owns (c : Thread nD τ) (s3 true) fullShare X) := rfl
  have hs : (s3 true).view.set = Finset.univ := View.set_whole _
  rw [h, ← held_eq c (s3 true), hs]
  rfl

include z in
/-- A device's scratch buffers, each held whole at some contents, are its slots. -/
theorem scratch_eq :
    (Pipeline.scopedRest (Ix := Unit) (Name := ℕ) (U := UU) (Lvl := ℕ) (Val := Elt F) cfg0.spec c : sProp 𝕄) = bigSep Finset.univ fun k => free k c := by
  rw [bigSep_sl, ← buf0 c z, ← buf1 c z, ← buf2 c z, ← buf3 c z, ← buf4 c z, ← buf5 c z, ← buf6 c z, ← buf7 c z, ← buf8 c z, ← buf9 c z, ← buf10 c, ← buf11 c, ← buf12 c z, ← buf13 c z]
  exact scopedRest0_eq c

end Cert.Proof

end
-- ==== Proof.Launch.lean ====
/-
  The run of the whole program on the mesh, at any float values: from any memory with zero counters every execution ends, with the
  arguments unchanged, every counter at zero, and each device's result at the contents the body's proof names.
-/
module

public import proofs.«01_k».proof.Proof.Deal
public import proofs.«01_k».proof.Proof.Body
public import proofs.«01_k».proof.Proof.BodyEq
public import proofs.«01_k».proof.Proof.Slots
public import proofs.«01_k».proof.Proof.Gen.KernelIdeal.Launch
public import proofs.«01_k».proof.Proof.Gen.KernelIdeal.Points
public import Idealize.ShloMosaic.Lib.Pipeline.Launch
public import Idealize.ShloMosaic.Lib.Pipeline.ValueKit
public import Idealize.ShloMosaic.Lib.Pipeline.CollectiveSegs

@[expose] public section

set_option maxRecDepth 100000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The devices' argument blocks. -/
def inOf : In F where
  A c := m ((c : Thread nD τ).loc main_arg0)
  B c := m ((c : Thread nD τ).loc main_arg1)

/-- What a device's result holds in the end. -/
@[irreducible] def In.out (I : In F) (c : Dev nD) : OB F := I.OD 7 c
theorem In.out_eq (I : In F) (c : Dev nD) : I.out c = I.OD 7 c := by unfold In.out; rfl

/-! ## Each window is its whole array -/

theorem blk_read0 (f : Vec F S2048x1024 .f32) : ((cfg0.win (0 : Fin 3)).blk t0_0).view.read (Elt F) f = f :=
  Memref.read_access_unit_zero (Elt F) main_arg0 (funext fun a => by fin_cases a <;> decide) (fun a => by fin_cases a <;> decide) f
theorem blk_read1 (f : Vec F S1024x2048 .f32) : ((cfg0.win (1 : Fin 3)).blk t0_0).view.read (Elt F) f = f :=
  Memref.read_access_unit_zero (Elt F) main_arg1 (funext fun a => by fin_cases a <;> decide) (fun a => by fin_cases a <;> decide) f
theorem blk_read2 (f : OB F) : ((cfg0.win (2 : Fin 3)).blk t0_0).view.read (Elt F) f = f :=
  Memref.read_access_unit_zero (Elt F) main_v1 (funext fun a => by fin_cases a <;> decide) (fun a => by fin_cases a <;> decide) f

/-! ## The proof data -/

/-- What a device's body starts from, beside its buffers. -/
def start (c : Dev nD) : sProp 𝕄 :=
  iprop(G' (inOf m) c ∗ (cred (tallyAt (cell c .bar) () 4) ∗ bigSep Finset.univ fun x : Tr => cred (tallyAt (cell c (.r x)) () x.N)) ∗ levAts L lv)
def Φ₀ (c : Dev nD) : sProp 𝕄 := iprop(start m c ∗ bigSep Finset.univ fun k => free (F := F) k c)
/-- What it leaves: the scratch, and every counter at zero. -/
def Φ₁ (c : Dev nD) : sProp 𝕄 := iprop((bigSep Finset.univ fun k => free (F := F) k c) ∗ bigSep Finset.univ fun k => semVal (cell c k) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (inOf m).A c
    | ⟨1, _⟩ => (inOf m).B c
    | ⟨2, _⟩ => (inOf m).out c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Pipeline.Dat.share; split <;> rfl

theorem before0 (c : Dev nD) (d) : (dats m ρ 0 c).before (0 : Fin 3) t0_0 d = (inOf m).A c := by
  unfold Pipeline.Dat.before; refine (if_pos (fetch0_0 t0_0)).trans ?_; exact blk_read0 (F := F) (m ((c : Thread nD τ).loc main_arg0))
theorem before1 (c : Dev nD) (d) : (dats m ρ 0 c).before (1 : Fin 3) t0_0 d = (inOf m).B c := by
  unfold Pipeline.Dat.before; refine (if_pos (fetch0_1 t0_0)).trans ?_; exact blk_read1 (F := F) (m ((c : Thread nD τ).loc main_arg1))

/-! ## The body -/

theorem owed_don (c : Dev nD) : owed true (fun _ => Ph.don) c = 0 := by
  have h : pend (fun _ => Ph.don) = ∅ := by unfold pend; exact Finset.filter_false_of_mem fun _ _ h => by simp at h
  unfold owed owedT; rw [h, Finset.sum_empty, if_pos rfl, add_zero]

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (I : In F) (c : Dev nD)

/-- The deal, with the credits, is a device's state before its first step. -/
theorem start_tRes : iprop(((bigSep Finset.univ fun k => atPos ER (cell c k) 0 ∅ 0) ∗ payToks c)
      ∗ (cred (tallyAt (cell c .bar) () 4) ∗ bigSep Finset.univ fun x : Tr => cred (tallyAt (cell c (.r x)) () x.N)))
    ⊢ (iprop(barRes c false ∗ bigSep Finset.univ fun x => tRes c x .no) : sProp 𝕄) := by
  rw [bigSep_cl]
  unfold payToks barRes tRes
  dsimp only
  rw [bigSep_sep', bigSep_sep', bigSep_sep', bigSep_sep']
  iintro ⟨⟨⟨HatB, HatS, HatR⟩, ⟨HtR, HtL, HtU, HtD⟩, HtS, HtV⟩, HcB, HcR⟩
  isplitl [HatB HtR HtL HtU HtD HcB]
  · isplitl [HatB]; · iexact HatB
    isplitl [HcB]; · iexact HcB
    isplitl [HtR]; · iexact HtR
    isplitl [HtL]; · iexact HtL
    isplitl [HtU] <;> iassumption
  isplitl [HtS]; · iexact HtS
  isplitl [HtV]; · iexact HtV
  isplitl [HatS]; · iexact HatS
  isplitl [HatR] <;> iassumption

theorem done_at : (iprop(barRes c true ∗ bigSep Finset.univ fun x => tRes c x .don) : sProp 𝕄) ⊢ bigSep Finset.univ fun k => atPos ER (cell c k) 1 ∅ 0 := by
  rw [bigSep_cl]
  unfold barRes tRes
  dsimp only
  rw [bigSep_sep']

/-- Every cell closes, its counter at zero. -/
theorem close_all (K : Dev nD × Cl → ℕ) : (iprop(records I K ∗ bigSep Finset.univ fun k => atPos ER (cell c k) 1 ∅ 0) : sProp 𝕄)
    ⊢ |={Set.univ}=> bigSep Finset.univ fun k => semVal (cell c k) 0 := by
  have h : ∀ k ∈ (Finset.univ : Finset Cl), (iprop(records I K ∗ atPos ER (cell c k) 1 ∅ 0) : sProp 𝕄) ⊢ |={Set.univ}=> semVal (cell c k) 0 := fun k _ => by
    have hrec : (records I K : sProp 𝕄) ⊢ cellInv ER (sch I) (K (c, k)) (cell c k) := by
      unfold records
      iintro ⟨H, -⟩
      iapply (show _ ⊢ _ from bigSep_elim (Φ := fun ck : Dev nD × Cl => (cellInv ER (sch I) (K ck) (cell ck.1 ck.2) : sProp 𝕄)) (Finset.mem_univ (c, k))) $$ H
    exact (sep_mono_left hrec).trans (Rounds.cell_close ER (sch I) (Set.mem_univ (K (c, k))) (fun h => h) (R := 1) (sch_later I (cell c k)))
  exact (bigSep_with h).trans (bigSep_fupd _ _)

theorem drop_full : (bigSep Finset.univ fun k => sRes I c k .fu : sProp 𝕄) ⊢ bigSep Finset.univ fun k => free (F := F) k c :=
  bigSep_mono fun k _ => full_free I k c

end Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 ((inOf m).A c) ∗ stg c cc0_stg1_0 ((inOf m).B c) ∗ stg c cc0_stg2_0 ((inOf m).out c))

theorem body_pre (c : Dev nD) : bodyPre m ρ c ⊢ iprop(∃ O : OB F, aPts (inOf m) c ∗ bPts (inOf m) c ∗ Inv (inOf m) c false (fun _ => .no) (fun _ => .fr) O) := by
  unfold bodyPre Φ₀ start G' linear
  iintro ⟨⟨⟨⟨%K, #Hrec, HG⟩, Hcr, #Hlev⟩, Hfree⟩, Ho, ⟨%d0, %g0, %hg0, Ha⟩, ⟨%d1, %g1, %hg1, Hb⟩, ⟨%d2, %g2, %hg2, Hc⟩⟩
  have h0 : g0 = (inOf m).A c := hg0.trans (before0 m ρ c d0)
  have h1 : g1 = (inOf m).B c := hg1.trans (before1 m ρ c d1)
  subst h0 h1
  unfold Pipeline.Dat.owesAt Pipeline.owesWithin
  icases Ho with ⟨%W, %hW, HO⟩
  rw [show (dats m ρ 0 c).owed t0_0.castSucc = O₀ c from rfl]
  ihave HT := (start_tRes (F := F) c) $$ [HG Hcr]
  · isplitl [HG] <;> iassumption
  icases HT with ⟨Hbar, Htr⟩
  iexists g2
  isplitl [Ha]; · unfold aPts; iexact Ha
  isplitl [Hb]; · unfold bPts; iexact Hb
  unfold Inv
  iexists K
  iexists W
  isplitr
  · unfold env; isplitr <;> iassumption
  isplitl [HO]; · unfold O₀; iexact HO
  isplitl [Hbar]; · iexact Hbar
  isplitl [Htr]; · iexact Htr
  isplitl [Hfree]; · iexact Hfree
  iexact Hc

theorem body_post (c : Dev nD) : iprop(aPts (inOf m) c ∗ bPts (inOf m) c ∗ Inv (inOf m) c true (fun _ => .don) (fun _ => .fu) ((inOf m).out c))
    ⊢ |={Set.univ}=> bodyPost m ρ c := by
  unfold Inv env
  iintro ⟨Ha, Hb, ⟨%K, %W, ⟨#Hrec, #Hlev⟩, HO, Hbar, Htr, Hs, Hc⟩⟩
  ihave Hat := (done_at (F := F) c) $$ [Hbar Htr]
  · isplitl [Hbar] <;> iassumption
  imod (close_all (inOf m) c K) $$ [Hat] with Hz
  · isplitr; · iexact Hrec
    iexact Hat
  ihave Hf := (drop_full (inOf m) c) $$ Hs
  imodintro
  unfold bodyPost Φ₁ Pipeline.Dat.owesAt Pipeline.owesWithin
  rw [show (dats m ρ 0 c).owed t0_0.succ = 0 from rfl, owed_don]
  isplitl [Hf Hz]
  · isplitl [Hf] <;> iassumption
  isplitl [HO]
  · iexists W
    isplitr; · ipureintro; exact fun _ _ => Or.inl trivial
    iexact HO
  isplitl [Ha]
  · iexists _; isplitr; · (ipureintro; rfl)
    unfold aPts; iexact Ha
  isplitl [Hb]
  · iexists _; isplitr; · (ipureintro; rfl)
    unfold bPts; iexact Hb
  iexists _; isplitr; · (ipureintro; rfl)
  iexact Hc

/-- The body, from what the launch hands it to what the launch wants back. -/
theorem prog_run (c : Dev nD) : bodyPre m ρ c ⊢ W c prog fun _ => bodyPost m ρ c := by
  refine (body_pre m ρ c).trans ?_
  iintro ⟨%O, H⟩
  have h := prog_ok (I := inOf m) (c := c) (O := O)
  rw [← In.out_eq] at h
  iapply (show _ ⊢ _ from h.trans ((wp_mono _ _ _ fun _ => body_post m ρ c).trans (wp_fupd _ _ _ _ _))) $$ H

theorem row_eq : defs₀ (F := F) .tc 0 (t0_0, cfg0.slots t0_0) = prog :=
  (show defs₀ (F := F) .tc 0 (t0_0, cfg0.slots t0_0) = bodyAt0 (F := F) t0_0 from rfl).trans body_eq

theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  rw [show defs₀ (F := F) .tc 0 (t0_0, cfg0.slots t0_0) = prog from row_eq]
  exact prog_run m ρ c

/-! ## The launch -/

theorem stage_lv (w : Fin 3) (s : Fin (spec0 w).nbuf) (k : Cl) : csem k ≠ .dma ((spec0 w).sem s) := by
  revert w s k; decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inOf m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- Some number. -/
def z₀ : Elt F .bf16 := (inOf m).XA false 0 0 (fun a => ⟨0, by fin_cases a <;> decide⟩)

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq c (z₀ m)]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq c (z₀ m)]
  unfold Φ₁
  iintro ⟨Hf, Hz⟩
  ihave Hz' := (Entails.of_eq (sems0_eq (F := F) c).symm) $$ Hz
  icases Hz' with ⟨H1, H2⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), SemLoc.dma ((spec0 w).sem s)) () ≤ 0 := by
      unfold lv
      rw [show cls (SemLoc.dma ((spec0 w).sem s)) = none from dif_neg fun ⟨k, hk⟩ => stage_lv w s k hk]
      exact le_refl 0
    rcases t with ⟨_ | _, ht⟩
    · exact mayWait _ 0 hlv (fun y _ => by omega) (Or.inr rfl)
    · show _ ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inOf m)) (G' := G' (inOf m)) (u₀ := u₀)
    (hu₀ := by
      unfold u₀
      iintro Hu
      ihave H := (ownU_pair _ _) $$ Hu
      icases H with ⟨HP, HX⟩
      imod (fund_cells (inOf m)) $$ HX with HG
      imodintro
      isplitl [HP] <;> iassumption)
    (hglob := glob (inOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays at the end. -/
theorem finalA_0 (c : Dev nD) : finalA m ρ c (0 : Fin 3) = m ((c : Thread nD τ).loc main_arg0) := (dats (F := F) m ρ 0 c).arrAt_in (0 : Fin 3) rfl _
theorem finalA_1 (c : Dev nD) : finalA m ρ c (1 : Fin 3) = m ((c : Thread nD τ).loc main_arg1) := (dats (F := F) m ρ 0 c).arrAt_in (1 : Fin 3) rfl _
theorem finalA_2 (c : Dev nD) : finalA m ρ c (2 : Fin 3) = (inOf m).out c := by
  refine (dats m ρ 0 c).arrAt_eq_of_after_last (2 : Fin 3) t0_0 (by decide +kernel) _ fun j => ?_
  show cast _ ((inOf m).out c fun a => ⟨(j a).val, _⟩) = _
  generalize (inOf m).out c = X
  rfl

/-- So the program ends, its arguments as they were, its result the devices' `out`, its counters at zero. -/
theorem run : θ_run defs (onTc (τ := τ) (main (F := F))) (s₀ m ρ) (fun r =>
    (∀ c : Dev nD, r.2.mem ((c : Thread nD τ).loc main_v1) = (inOf m).out c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c 2).trans (finalA_2 m ρ c), (h.1 c 0).trans (finalA_0 m ρ c), (h.1 c 1).trans (finalA_1 m ρ c)⟩, h.2⟩) (run_main m ρ)

end Cert.Proof

end
-- ==== Proof.lean ====
/-
  The five claims: both forms of the kernel, and the reference, run to the end with their arguments unchanged and every counter at
  zero; the idealization replaced nothing; and the kernel's result on every device is the reference's.
-/
module

public import proofs.«01_k».proof.Defs
public import proofs.«01_k».proof.Proof.Gen.ReferenceIdeal
public import proofs.«01_k».proof.Proof.Gen.ReferenceIdeal.Run
public import proofs.«01_k».proof.Proof.Same
public import proofs.«01_k».proof.Proof.Whole
public import proofs.«01_k».proof.Proof.Launch

@[expose] public section

noncomputable section

namespace Cert.Proof

open Idealize.ShloMosaic Idealize.SL.Sem

/-- At any float values the kernel ends with its arguments as they were and its counters at zero. -/
theorem frame_of_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (run m g)

/-- The reference's: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result is the product of the whole arrays, and so is the reference's. -/
theorem value : Cert.algebraic_KernelIdeal_ReferenceIdeal := fun m g m' g' _ hblk =>
  ⟨prod (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans ((In.out_eq _ c).trans (funext fun i => ((inOf m).OD_at c i).trans
      ((inOf m).T_eq _ _ (fun d => (hblk d).1) (fun d => (hblk d).2) i))), (h.1 c).2⟩) (run m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  kernel_of_ideal fun m g => frame_of_run m g, fun m g _ => frame_of_run m g, frame_reference, trivial, value⟩

end Cert.Proof

end
